-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5)
      ∧ r.2.mem ((c.tc : Thread Cert.KernelTail.nD Cert.KernelTail.τ).loc Cert.KernelTail.main_arg6) = m ((c.tc : Thread Cert.KernelTail.nD Cert.KernelTail.τ).loc Cert.KernelTail.main_arg6)
      ∧ r.2.mem ((c.tc : Thread Cert.KernelTail.nD Cert.KernelTail.τ).loc Cert.KernelTail.main_arg7) = m ((c.tc : Thread Cert.KernelTail.nD Cert.KernelTail.τ).loc Cert.KernelTail.main_arg7)
      ∧ r.2.mem ((c.tc : Thread Cert.KernelTail.nD Cert.KernelTail.τ).loc Cert.KernelTail.main_arg8) = m ((c.tc : Thread Cert.KernelTail.nD Cert.KernelTail.τ).loc Cert.KernelTail.main_arg8)
      ∧ r.2.mem ((c.tc : Thread Cert.KernelTail.nD Cert.KernelTail.τ).loc Cert.KernelTail.main_arg9) = m ((c.tc : Thread Cert.KernelTail.nD Cert.KernelTail.τ).loc Cert.KernelTail.main_arg9))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
      ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
      ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
      ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)
      ∧ m' ((c.tc : Thread Cert.ReferenceTailIdeal.nD Cert.ReferenceTailIdeal.τ).loc Cert.ReferenceTailIdeal.main_arg6) = m ((c.tc : Thread Cert.KernelTailIdeal.nD Cert.KernelTailIdeal.τ).loc Cert.KernelTailIdeal.main_arg6)
      ∧ m' ((c.tc : Thread Cert.ReferenceTailIdeal.nD Cert.ReferenceTailIdeal.τ).loc Cert.ReferenceTailIdeal.main_arg7) = m ((c.tc : Thread Cert.KernelTailIdeal.nD Cert.KernelTailIdeal.τ).loc Cert.KernelTailIdeal.main_arg7)
      ∧ m' ((c.tc : Thread Cert.ReferenceTailIdeal.nD Cert.ReferenceTailIdeal.τ).loc Cert.ReferenceTailIdeal.main_arg8) = m ((c.tc : Thread Cert.KernelTailIdeal.nD Cert.KernelTailIdeal.τ).loc Cert.KernelTailIdeal.main_arg8)
      ∧ m' ((c.tc : Thread Cert.ReferenceTailIdeal.nD Cert.ReferenceTailIdeal.τ).loc Cert.ReferenceTailIdeal.main_arg9) = m ((c.tc : Thread Cert.KernelTailIdeal.nD Cert.KernelTailIdeal.τ).loc Cert.KernelTailIdeal.main_arg9)) →
    ∃ (v0 : (c : Dev Cert.KernelTailIdeal.nD) → Buf (Elt Ideal) ((c.tc : Thread Cert.KernelTailIdeal.nD Cert.KernelTailIdeal.τ).loc Cert.KernelTailIdeal.main_v11)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v11) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
          ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
          ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
          ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
          ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v45) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9))

def Claim : Prop :=
  ∃ (hKernel : Cert.Kernel.Facts) (hKernelIdeal : Cert.KernelIdeal.Facts) (hReferenceIdeal : Cert.ReferenceIdeal.Facts) (hKernelTail : Cert.KernelTail.Facts) (hKernelTailIdeal : Cert.KernelTailIdeal.Facts) (hReferenceTailIdeal : Cert.ReferenceTailIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelTail_KernelTailIdeal
    ∧ algebraic_KernelTailIdeal_ReferenceTailIdeal (hKernelTailIdeal := hKernelTailIdeal) (hReferenceTailIdeal := hReferenceTailIdeal)
-- ==== Pre_finite.lean ====
abbrev S4x4096x16x64 : Shape := ⟨4, ![4, 4096, 16, 64]⟩
abbrev S4x4096x8x128 : Shape := ⟨4, ![4, 4096, 8, 128]⟩
abbrev S4x64 : Shape := ⟨2, ![4, 64]⟩
abbrev S128 : Shape := ⟨1, ![128]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S4x4096x16x64 .f32) (main_arg1 : FVec F S4x4096x16x64 .f32) (main_arg2 : FVec F S4x4096x8x128 .f32) (main_arg3 : FVec F S4x64 .f32) (main_arg4 : FVec F S128 .f32) : IVec S_ 1 :=
  let main_v0 : FVec F S4x4096x8x128 .f32 := Host.absf main_arg2
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S4x4096x16x64 : Shape := ⟨4, ![4, 4096, 16, 64]⟩
abbrev S4x4096x8x128 : Shape := ⟨4, ![4, 4096, 8, 128]⟩
abbrev S4x64 : Shape := ⟨2, ![4, 64]⟩
abbrev S128 : Shape := ⟨1, ![128]⟩
abbrev S20 : Shape := ⟨1, ![20]⟩
abbrev S16384x1024 : Shape := ⟨2, ![16384, 1024]⟩
abbrev S_ : Shape := ⟨0, ![]⟩
abbrev S4x4096x1024 : Shape := ⟨3, ![4, 4096, 1024]⟩
abbrev S4x1024x4096 : Shape := ⟨3, ![4, 1024, 4096]⟩
abbrev S4096x4096 : Shape := ⟨2, ![4096, 4096]⟩
abbrev S128x1 : Shape := ⟨2, ![128, 1]⟩
abbrev S1024x128 : Shape := ⟨2, ![1024, 128]⟩
abbrev S1 : Shape := ⟨1, ![1]⟩
abbrev S512x128 : Shape := ⟨2, ![512, 128]⟩
abbrev S128x512 : Shape := ⟨2, ![128, 512]⟩
abbrev S2048x128 : Shape := ⟨2, ![2048, 128]⟩
abbrev S1x2048 : Shape := ⟨2, ![1, 2048]⟩
abbrev S128x2048 : Shape := ⟨2, ![128, 2048]⟩
abbrev S1x128 : Shape := ⟨2, ![1, 128]⟩
abbrev S512x512 : Shape := ⟨2, ![512, 512]⟩
abbrev S1x512 : Shape := ⟨2, ![1, 512]⟩
abbrev S512 : Shape := ⟨1, ![512]⟩
abbrev S1x64 : Shape := ⟨2, ![1, 64]⟩
abbrev S1x1 : Shape := ⟨2, ![1, 1]⟩
abbrev S128x1024 : Shape := ⟨2, ![128, 1024]⟩
abbrev S1024 : Shape := ⟨1, ![1024]⟩
abbrev S1x1024 : Shape := ⟨2, ![1, 1024]⟩

abbrev nBuf : Space → Nat
  | .hbm => 21
  | .vmem => 14
  | .smem => 2
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x8x128, .f32⟩
  | .hbm, ⟨3, _⟩ => ⟨S4x64, .f32⟩
  | .hbm, ⟨4, _⟩ => ⟨S128, .f32⟩
  | .hbm, ⟨5, _⟩ => ⟨S16384x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x1024, .bf16⟩
  | .hbm, ⟨15, _⟩ => ⟨S4x4096x1024, .f32⟩
  | .hbm, ⟨16, _⟩ => ⟨S4x1024x4096, .f32⟩
  | .hbm, ⟨17, _⟩ => ⟨S4096x4096, .f32⟩
  | .hbm, ⟨18, _⟩ => ⟨S4096x4096, .bf16⟩
  | .hbm, ⟨19, _⟩ => ⟨S128x1, .f32⟩
  | .hbm, ⟨20, _⟩ => ⟨S16384x1024, .bf16⟩
  | .local _ .vmem, ⟨0, _⟩ => ⟨S4x64, .f32⟩
  | .local _ .vmem, ⟨1, _⟩ => ⟨S128x1, .f32⟩
  | .local _ .vmem, ⟨2, _⟩ => ⟨S1024x128, .bf16⟩
  | .local _ .vmem, ⟨3, _⟩ => ⟨S1024x128, .bf16⟩
  | .local _ .vmem, ⟨4, _⟩ => ⟨S512x128, .bf16⟩
  | .local _ .vmem, ⟨5, _⟩ => ⟨S512x128, .bf16⟩
  | .local _ .vmem, ⟨6, _⟩ => ⟨S128x512, .bf16⟩
  | .local _ .vmem, ⟨7, _⟩ => ⟨S128x512, .bf16⟩
  | .local _ .vmem, ⟨8, _⟩ => ⟨S1024x128, .bf16⟩
  | .local _ .vmem, ⟨9, _⟩ => ⟨S1024x128, .bf16⟩
  | .local _ .vmem, ⟨10, _⟩ => ⟨S2048x128, .bf16⟩
  | .local _ .vmem, ⟨11, _⟩ => ⟨S1x2048, .f32⟩
  | .local _ .vmem, ⟨12, _⟩ => ⟨S1x2048, .f32⟩
  | .local _ .vmem, ⟨13, _⟩ => ⟨S128x2048, .f32⟩
  | .local _ .smem, ⟨0, _⟩ => ⟨S20, .i32⟩
  | .local _ .smem, ⟨1, _⟩ => ⟨S20, .i32⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 20], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond4 (v1 : BitVec 32) (v3 : BitVec 32) : BitVec 1 :=
  let c1_i32_4 : BitVec 32 := 1#32
  let v17 : BitVec 32 := Scalar.addi v3 c1_i32_4
  let c512_i32_5 : BitVec 32 := 512#32
  let v18 : BitVec 32 := Scalar.muli v17 c512_i32_5
  let c1_i32_6 : BitVec 32 := 1#32
  let v19 : BitVec 32 := Scalar.addi v1 c1_i32_6
  let c1024_i32_7 : BitVec 32 := 1024#32
  let v20 : BitVec 32 := Scalar.muli v19 c1024_i32_7
  let v21 : BitVec 1 := Scalar.cmpi .sge v18 v20
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S20) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S20) ![v1.toNat] S1.size (k0_off1_inb i)) numel1_S1
  let v3 : BitVec 32 := Scalar.addi v0 v2
  let c0_i32 : BitVec 32 := 0#32
  ![v3.toNat, arg1.toNat]

def cc0_transform_4 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let v2 : Index := Scalar.indexCast arg2
  let v3 : BitVec 32 := pf.at 1 (Rect.unit (s := S20) ![v2.toNat] S1.size (k0_off1_inb i)) numel1_S1
  let c0_i32 : BitVec 32 := 0#32
  ![v1.toNat, v3.toNat]

def cc0_transform_5 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S20) ![v1.toNat] S1.size (k0_off1_inb i)) numel1_S1
  let v3 : BitVec 32 := Scalar.addi v0 v2
  let c0_i32 : BitVec 32 := 0#32
  ![v3.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x16x64 : Shape := ⟨4, ![4, 4096, 16, 64]⟩
abbrev S4x4096x8x128 : Shape := ⟨4, ![4, 4096, 8, 128]⟩
abbrev S4x64 : Shape := ⟨2, ![4, 64]⟩
abbrev S128 : Shape := ⟨1, ![128]⟩
abbrev S4096 : Shape := ⟨1, ![4096]⟩
abbrev S1x64 : Shape := ⟨2, ![1, 64]⟩
abbrev S64 : Shape := ⟨1, ![64]⟩
abbrev S_ : Shape := ⟨0, ![]⟩
abbrev S4x16x4096x4096 : Shape := ⟨4, ![4, 16, 4096, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x8x2x4096x4096 : Shape := ⟨5, ![4, 8, 2, 4096, 4096]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x16x64, .f32⟩
  | .hbm, ⟨2, _⟩ => ⟨S4x4096x8x128, .f32⟩
  | .hbm, ⟨3, _⟩ => ⟨S4x64, .f32⟩
  | .hbm, ⟨4, _⟩ => ⟨S128, .f32⟩
  | .hbm, ⟨5, _⟩ => ⟨S4096, .i32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x16x4096x4096, .f32⟩
  | .hbm, ⟨26, _⟩ => ⟨S_, .f32⟩
  | .hbm, ⟨27, _⟩ => ⟨S4x16x4096x4096, .f32⟩
  | .hbm, ⟨28, _⟩ => ⟨S4x16x4096x4096, .f32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S1x1x4096x4096, .i1⟩
  | .hbm, ⟨35, _⟩ => ⟨S_, .f32⟩
  | .hbm, ⟨36, _⟩ => ⟨S_, .f32⟩
  | .hbm, ⟨37, _⟩ => ⟨S4x16x4096x4096, .i1⟩
  | .hbm, ⟨38, _⟩ => ⟨S4x16x4096x4096, .f32⟩
  | .hbm, ⟨39, _⟩ => ⟨S4x16x4096x4096, .f32⟩
  | .hbm, ⟨40, _⟩ => ⟨S_, .f32⟩
  | .hbm, ⟨41, _⟩ => ⟨S4x16x4096, .f32⟩
  | .hbm, ⟨42, _⟩ => ⟨S_, .f32⟩
  | .hbm, ⟨43, _⟩ => ⟨S4x16x4096, .f32⟩
  | .hbm, ⟨44, _⟩ => ⟨S4x16x4096, .f32⟩
  | .hbm, ⟨45, _⟩ => ⟨S4x16x4096x1, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S_, .f32⟩
  | .hbm, ⟨50, _⟩ => ⟨S4x16x4096, .f32⟩
  | .hbm, ⟨51, _⟩ => ⟨S4x16x4096x1, .f32⟩
  | .hbm, ⟨52, _⟩ => ⟨S4x16x4096x4096, .f32⟩
  | .hbm, ⟨53, _⟩ => ⟨S4x16x4096x4096, .f32⟩
  | .hbm, ⟨54, _⟩ => ⟨S4x8x2x4096x4096, .f32⟩
  | .hbm, ⟨55, _⟩ => ⟨S4x8x1x4096x4096, .f32⟩
  | .hbm, ⟨56, _⟩ => ⟨S4x8x4096x4096, .f32⟩
  | .hbm, ⟨57, _⟩ => ⟨S4x8x1x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x128x4096, .f32⟩
  | .hbm, ⟨63, _⟩ => ⟨S4x4096x8x128, .f32⟩
  | .hbm, ⟨64, _⟩ => ⟨S4x4096x8x128, .f32⟩
  | .hbm, ⟨65, _⟩ => ⟨S_, .f32⟩
  | .hbm, ⟨66, _⟩ => ⟨S4x4096x8, .f32⟩
  | .hbm, ⟨67, _⟩ => ⟨S4x4096x8x1, .f32⟩
  | .hbm, ⟨68, _⟩ => ⟨S_, .f32⟩
  | .hbm, ⟨69, _⟩ => ⟨S4x4096x8x1, .f32⟩
  | .hbm, ⟨70, _⟩ => ⟨S4x4096x8x1, .f32⟩
  | .hbm, ⟨71, _⟩ => ⟨S_, .f32⟩
  | .hbm, ⟨72, _⟩ => ⟨S4x4096x8x1, .f32⟩
  | .hbm, ⟨73, _⟩ => ⟨S4x4096x8x1, .f32⟩
  | .hbm, ⟨74, _⟩ => ⟨S4x4096x8x1, .f32⟩
  | .hbm, ⟨75, _⟩ => ⟨S4x4096x8x128, .f32⟩
  | .hbm, ⟨76, _⟩ => ⟨S4x4096x8x128, .f32⟩
  | .hbm, ⟨77, _⟩ => ⟨S1x1x1x128, .f32⟩
  | .hbm, ⟨78, _⟩ => ⟨S4x4096x8x128, .f32⟩
  | .hbm, ⟨79, _⟩ => ⟨S4x4096x8x128, .f32⟩
  | .hbm, ⟨80, _⟩ => ⟨S_, .f32⟩
  | .hbm, ⟨81, _⟩ => ⟨S4x4096x8x128, .f32⟩
  | .hbm, ⟨82, _⟩ => ⟨S4x4096x8x128, .f32⟩
  | .hbm, ⟨83, _⟩ => ⟨S16384x1024, .f32⟩
  | .hbm, ⟨84, _⟩ => ⟨S16384x1024, .bf16⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== KernelTail.lean ====
abbrev S4x4096x1024 : Shape := ⟨3, ![4, 4096, 1024]⟩
abbrev S4x4096x256 : Shape := ⟨3, ![4, 4096, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S16384x1024 : Shape := ⟨2, ![16384, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩

abbrev nBuf : Space → Nat
  | .hbm => 22
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x256, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S16384x1024, .f32⟩
  | .hbm, ⟨11, _⟩ => ⟨S16384x1024, .f32⟩
  | .hbm, ⟨12, _⟩ => ⟨S16384x1024, .bf16⟩
  | .hbm, ⟨13, _⟩ => ⟨S16384x256, .f32⟩
  | .hbm, ⟨14, _⟩ => ⟨S1024x1024, .bf16⟩
  | .hbm, ⟨15, _⟩ => ⟨S1x1024, .f32⟩
  | .hbm, ⟨16, _⟩ => ⟨S1024x5632, .bf16⟩
  | .hbm, ⟨17, _⟩ => ⟨S2816x1024, .bf16⟩
  | .hbm, ⟨18, _⟩ => ⟨S1x1024, .f32⟩
  | .hbm, ⟨19, _⟩ => ⟨S1024x1024, .bf16⟩
  | .hbm, ⟨20, _⟩ => ⟨S256x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceTailIdeal.lean ====
abbrev S4x4096x1024 : Shape := ⟨3, ![4, 4096, 1024]⟩
abbrev S4x4096x256 : Shape := ⟨3, ![4, 4096, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x256, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x4096x5632, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S_, .f32⟩
  | .hbm, ⟨34, _⟩ => ⟨S4x4096x2816, .f32⟩
  | .hbm, ⟨35, _⟩ => ⟨S4x4096x2816, .f32⟩
  | .hbm, ⟨36, _⟩ => ⟨S_, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x1024, .f32⟩
  | .hbm, ⟨55, _⟩ => ⟨S4x4096x1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S_, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]
-- ==== Proof.AttnIdeal.Pins.lean ====
/- The two schedule tables as closed forms, the operands the kernel is handed, and a small bound lemma. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the ideal instance: every pinned word a `BitVec`. -/
local notation "𝕄" => MT nD τ sig Unit (Elt Ideal) ℕ (UR sig nD τ) ℕ

/-- The tables and scratches the kernel is handed, whole, at their literal types. -/
abbrev tbM0_0 : Memref sig .tc .smem S20 .i32 := Memref.whole main_c
abbrev tbM0_1 : Memref sig .tc .smem S20 .i32 := Memref.whole main_c_0
abbrev scM0_0 : Memref sig .tc .vmem S2048x128 .bf16 := Memref.whole cc0_scratch0
abbrev scM0_1 : Memref sig .tc .vmem S1x2048 .f32 := Memref.whole cc0_scratch1
abbrev scM0_2 : Memref sig .tc .vmem S1x2048 .f32 := Memref.whole cc0_scratch2
abbrev scM0_3 : Memref sig .tc .vmem S128x2048 .f32 := Memref.whole cc0_scratch3

/-! ## The pinned words: the tables and the steering windows' arrays, closed forms of the schedule index `ch` -/

/- THE SCHEDULE INDEX the whole certificate is stated for: member `ch` of the family of 1 (`schedule`;
    the one witness when 1 = 1). Every definition below that depends on the pinned words takes it first. -/
variable (ch : Fin 1)

/-- Prefetched table 0 (`main_c`, [20]) at member `ch`: the family TRACED (pins.py). -/
def pinT_0 (ch : Fin 1) : S20.Idx → BitVec 32 := fun x => (([0#32, 0#32, 1#32, 1#32, 1#32, 1#32, 2#32, 2#32, 2#32, 2#32, 2#32, 2#32, 3#32, 3#32, 3#32, 3#32, 3#32, 3#32, 3#32, 3#32] : List (BitVec 32)).getD ((x 0).val) 0#32)

/-- Prefetched table 1 (`main_c_0`, [20]) at member `ch`: the family TRACED (pins.py). -/
def pinT_1 (ch : Fin 1) : S20.Idx → BitVec 32 := fun x => (([0#32, 1#32, 0#32, 1#32, 2#32, 3#32, 0#32, 1#32, 2#32, 3#32, 4#32, 5#32, 0#32, 1#32, 2#32, 3#32, 4#32, 5#32, 6#32, 7#32] : List (BitVec 32)).getD ((x 0).val) 0#32)

set_option backward.proofsInPublic true in
/-- The tables' contents the certificate is written at, member `ch`'s. -/
def pfN : pre0.Contents (Elt Ideal) := fun | ⟨0, _⟩ => pinT_0 ch | ⟨1, _⟩ => pinT_1 ch | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

end Cert.KernelIdeal.Attn

end
-- ==== Proof.AttnIdeal.Runs.lean ====
/- The body's run along each of its five control paths. -/
module

public import proofs.«01_k».proof.Proof.Gen.KernelIdeal.Skeleton
public import proofs.«01_k».proof.Proof.AttnIdeal.Pins

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the ideal instance: every pinned word a `BitVec`. -/
local notation "𝕄" => MT nD τ sig Unit (Elt Ideal) ℕ (UR sig nD τ) ℕ

/-! ## The kernel body per control path, on symbolic staging memrefs: a subtype the run finds -/

/-- One staging buffer of output window 5, through which its contents are stated (`View.read_writes_of_cover`). -/
abbrev VO0_5 : View sig .tc .vmem S1024x128 .bf16 := (Memref.whole cc0_stg5_0 : Memref sig .tc .vmem S1024x128 .bf16).view

set_option backward.proofsInPublic true in
set_option maxHeartbeats 8000000 in
/-- PATH A (points 0, 20, … 620: 32 of 640): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32))
     (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (hc0 : (Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) 0#32)) 0#32) = 1#1) (hc1 : ¬((Scalar.cmpi .ne (Scalar.extui (Scalar.xori (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32))) 0#32) = 1#1) (k0_h4 : ¬(k0_cond4 (View.readAt (Elt Ideal) (tbM0_0).view (Rect.unit (s := S20) (k0_off1 i) S1.size (k0_off1_inb i)).toLoadRect T0 (Shape.Idx.first (numel1_S1.symm ▸ Nat.one_pos))) (View.readAt (Elt Ideal) (tbM0_1).view (Rect.unit (s := S20) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_diff_prompt_eq_skeleton]; unfold cc0_diff_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH B (points 1, 5, … 639: 128 of 640): what the body leaves — per stored output its pieces (last first), per scratch its
    contents — WITH the proof that, on whole staging memrefs, from the inputs at their blocks, the tables, the outputs
    (5: stored) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32))
     (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) 0#32)) 0#32) = 1#1)) (hc1 : ¬((Scalar.cmpi .ne (Scalar.extui (Scalar.xori (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32))) 0#32) = 1#1) (k0_h4 : k0_cond4 (View.readAt (Elt Ideal) (tbM0_0).view (Rect.unit (s := S20) (k0_off1 i) S1.size (k0_off1_inb i)).toLoadRect T0 (Shape.Idx.first (numel1_S1.symm ▸ Nat.one_pos))) (View.readAt (Elt Ideal) (tbM0_1).view (Rect.unit (s := S20) (k0_off1 i) S1.size (k0_off1_inb i)).toLoadRect T1 (Shape.Idx.first (numel1_S1.symm ▸ Nat.one_pos))) = 1#1) :
    Σ' (out0 : List (View.Piece (Elt Ideal) S1024x128 .bf16)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun K => by
    unfold owns
    rw [cc0_diff_prompt_eq_skeleton]; unfold cc0_diff_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path B's pieces for output 5 tile its block (1 store of `S1024x128`: the kernel evaluates the tiling, Lib/Ring.lean `Piece.tiledL`). -/
theorem cover0_B_5 (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32))
     (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) 0#32)) 0#32) = 1#1)) (hc1 : ¬((Scalar.cmpi .ne (Scalar.extui (Scalar.xori (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32))) 0#32) = 1#1) (k0_h4 : k0_cond4 (View.readAt (Elt Ideal) (tbM0_0).view (Rect.unit (s := S20) (k0_off1 i) S1.size (k0_off1_inb i)).toLoadRect T0 (Shape.Idx.first (numel1_S1.symm ▸ Nat.one_pos))) (View.readAt (Elt Ideal) (tbM0_1).view (Rect.unit (s := S20) (k0_off1 i) S1.size (k0_off1_inb i)).toLoadRect T1 (Shape.Idx.first (numel1_S1.symm ▸ Nat.one_pos))) = 1#1) (y : S1024x128.Idx) :
    ∃ pc ∈ (kernelRun0_B c i arg5 harg5 arg6 harg6 arg7 harg7 arg8 harg8 arg9 harg9 arg10 harg10 T0 T1 x0 x1 x2 x3 x4 xa0 xa1 xa2 xa3 hc0 hc1 hc2 k0_h4).1, y ∈ pc.1.set :=
  View.cover_of_tiledL (kernelRun0_B c i arg5 harg5 arg6 harg6 arg7 harg7 arg8 harg8 arg9 harg9 arg10 harg10 T0 T1 x0 x1 x2 x3 x4 xa0 xa1 xa2 xa3 hc0 hc1 hc2 k0_h4).1 S1024x128.size (by sl_kernel_rfl) y

/-- What path B leaves in output 5's staging buffer: its pieces read back over junk. -/
def out0_B_5 (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32))
     (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) 0#32)) 0#32) = 1#1)) (hc1 : ¬((Scalar.cmpi .ne (Scalar.extui (Scalar.xori (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32))) 0#32) = 1#1) (k0_h4 : k0_cond4 (View.readAt (Elt Ideal) (tbM0_0).view (Rect.unit (s := S20) (k0_off1 i) S1.size (k0_off1_inb i)).toLoadRect T0 (Shape.Idx.first (numel1_S1.symm ▸ Nat.one_pos))) (View.readAt (Elt Ideal) (tbM0_1).view (Rect.unit (s := S20) (k0_off1 i) S1.size (k0_off1_inb i)).toLoadRect T1 (Shape.Idx.first (numel1_S1.symm ▸ Nat.one_pos))) = 1#1) : (S1024x128.Idx → Elt Ideal .bf16) :=
  VO0_5.read (Elt Ideal) (VO0_5.writes (Elt Ideal) VO0_5.junk (kernelRun0_B c i arg5 harg5 arg6 harg6 arg7 harg7 arg8 harg8 arg9 harg9 arg10 harg10 T0 T1 x0 x1 x2 x3 x4 xa0 xa1 xa2 xa3 hc0 hc1 hc2 k0_h4).1)

set_option backward.proofsInPublic true in
set_option maxHeartbeats 8000000 in
/-- PATH C (points 2, 6, … 632: 96 of 640): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32))
     (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (hc0 : (Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) 0#32)) 0#32) = 1#1) (hc1 : (Scalar.cmpi .ne (Scalar.extui (Scalar.xori (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32)) 1#1)) 0#32) = 1#1) (hc2 : ¬((Scalar.cmpi .ne (Scalar.extui (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32))) 0#32) = 1#1)) (k0_h4 : ¬(k0_cond4 (View.readAt (Elt Ideal) (tbM0_0).view (Rect.unit (s := S20) (k0_off1 i) S1.size (k0_off1_inb i)).toLoadRect T0 (Shape.Idx.first (numel1_S1.symm ▸ Nat.one_pos))) (View.readAt (Elt Ideal) (tbM0_1).view (Rect.unit (s := S20) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_diff_prompt_eq_skeleton]; unfold cc0_diff_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH D (points 3, 7, … 637: 288 of 640): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32))
     (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) 0#32)) 0#32) = 1#1)) (hc1 : (Scalar.cmpi .ne (Scalar.extui (Scalar.xori (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32)) 1#1)) 0#32) = 1#1) (hc2 : ¬((Scalar.cmpi .ne (Scalar.extui (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32))) 0#32) = 1#1)) (k0_h4 : ¬(k0_cond4 (View.readAt (Elt Ideal) (tbM0_0).view (Rect.unit (s := S20) (k0_off1 i) S1.size (k0_off1_inb i)).toLoadRect T0 (Shape.Idx.first (numel1_S1.symm ▸ Nat.one_pos))) (View.readAt (Elt Ideal) (tbM0_1).view (Rect.unit (s := S20) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S1024x128.Idx → Elt Ideal .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1024x128.Idx → Elt Ideal .bf16)) K => by
    unfold owns
    rw [cc0_diff_prompt_eq_skeleton]; unfold cc0_diff_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH E (points 4, 10, … 638: 96 of 640): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_E (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32))
     (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) 0#32)) 0#32) = 1#1)) (hc1 : ¬((Scalar.cmpi .ne (Scalar.extui (Scalar.xori (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Ideal) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Ideal) (tbM0_0).view (Rect.unit (s := S20) (k0_off1 i) S1.size (k0_off1_inb i)).toLoadRect T0 (Shape.Idx.first (numel1_S1.symm ▸ Nat.one_pos))) 1024#32))) 0#32) = 1#1) (k0_h4 : ¬(k0_cond4 (View.readAt (Elt Ideal) (tbM0_0).view (Rect.unit (s := S20) (k0_off1 i) S1.size (k0_off1_inb i)).toLoadRect T0 (Shape.Idx.first (numel1_S1.symm ▸ Nat.one_pos))) (View.readAt (Elt Ideal) (tbM0_1).view (Rect.unit (s := S20) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y5 : (S1024x128.Idx → Elt Ideal .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1024x128.Idx → Elt Ideal .bf16)) K => by
    unfold owns
    rw [cc0_diff_prompt_eq_skeleton]; unfold cc0_diff_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

end Cert.KernelIdeal.Attn

end
-- ==== Proof.AttnIdeal.Ok0.lean ====
/- Every block of every window lies inside its array at the schedule of the two tables. -/
module

public import proofs.«01_k».proof.Proof.AttnIdeal.Pins

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the ideal instance: every pinned word a `BitVec`. -/
local notation "𝕄" => MT nD τ sig Unit (Elt Ideal) ℕ (UR sig nD τ) ℕ

theorem ok_pfN_0_0_inb : ∀ i : grid0.Coords, ∀ a, (cc0_transform_2 k0_off1_inb numel1_S1 (pfN (⟨0, by omega⟩ : Fin 1)) i a + 1) * S1024x128.size a ≤ S16384x1024.size a := by decide +kernel
theorem ok_pfN_0_0 : (∀ i : grid0.Coords, ∃ h : (∀ a, (cc0_transform_2 k0_off1_inb numel1_S1 (pfN (⟨0, by omega⟩ : Fin 1)) i a + 1) * S1024x128.size a ≤ S16384x1024.size a), EltTy.bits .bf16 = 32 ∨ (Rect.block (s := S16384x1024) S1024x128.size (cc0_transform_2 k0_off1_inb numel1_S1 (pfN (⟨0, by omega⟩ : Fin 1)) i) h).WholeWords (EltTy.packing .bf16)) := fun i => ⟨ok_pfN_0_0_inb i, .inr (Affine.block_words_dvd (s := S16384x1024) (p := EltTy.packing .bf16) (by decide) (by decide))⟩
theorem ok_pfN_0_1_inb : ∀ i : grid0.Coords, ∀ a, (cc0_transform_3 k0_off1_inb numel1_S1 (pfN (⟨0, by omega⟩ : Fin 1)) i a + 1) * S512x128.size a ≤ S16384x1024.size a := by decide +kernel
theorem ok_pfN_0_1 : (∀ i : grid0.Coords, ∃ h : (∀ a, (cc0_transform_3 k0_off1_inb numel1_S1 (pfN (⟨0, by omega⟩ : Fin 1)) i a + 1) * S512x128.size a ≤ S16384x1024.size a), EltTy.bits .bf16 = 32 ∨ (Rect.block (s := S16384x1024) S512x128.size (cc0_transform_3 k0_off1_inb numel1_S1 (pfN (⟨0, by omega⟩ : Fin 1)) i) h).WholeWords (EltTy.packing .bf16)) := fun i => ⟨ok_pfN_0_1_inb i, .inr (Affine.block_words_dvd (s := S16384x1024) (p := EltTy.packing .bf16) (by decide) (by decide))⟩
theorem ok_pfN_0_2_inb : ∀ i : grid0.Coords, ∀ a, (cc0_transform_4 k0_off1_inb numel1_S1 (pfN (⟨0, by omega⟩ : Fin 1)) i a + 1) * S128x512.size a ≤ S4096x4096.size a := by decide +kernel
theorem ok_pfN_0_2 : (∀ i : grid0.Coords, ∃ h : (∀ a, (cc0_transform_4 k0_off1_inb numel1_S1 (pfN (⟨0, by omega⟩ : Fin 1)) i a + 1) * S128x512.size a ≤ S4096x4096.size a), EltTy.bits .bf16 = 32 ∨ (Rect.block (s := S4096x4096) S128x512.size (cc0_transform_4 k0_off1_inb numel1_S1 (pfN (⟨0, by omega⟩ : Fin 1)) i) h).WholeWords (EltTy.packing .bf16)) := fun i => ⟨ok_pfN_0_2_inb i, .inr (Affine.block_words_dvd (s := S4096x4096) (p := EltTy.packing .bf16) (by decide) (by decide))⟩
theorem ok_pfN_0_3_inb : ∀ i : grid0.Coords, ∀ a, (cc0_transform_5 k0_off1_inb numel1_S1 (pfN (⟨0, by omega⟩ : Fin 1)) i a + 1) * S1024x128.size a ≤ S16384x1024.size a := by decide +kernel
theorem ok_pfN_0_3 : (∀ i : grid0.Coords, ∃ h : (∀ a, (cc0_transform_5 k0_off1_inb numel1_S1 (pfN (⟨0, by omega⟩ : Fin 1)) i a + 1) * S1024x128.size a ≤ S16384x1024.size a), EltTy.bits .bf16 = 32 ∨ (Rect.block (s := S16384x1024) S1024x128.size (cc0_transform_5 k0_off1_inb numel1_S1 (pfN (⟨0, by omega⟩ : Fin 1)) i) h).WholeWords (EltTy.packing .bf16)) := fun i => ⟨ok_pfN_0_3_inb i, .inr (Affine.block_words_dvd (s := S16384x1024) (p := EltTy.packing .bf16) (by decide) (by decide))⟩
theorem ok_pfN_0 : ok0 (F := Ideal) (pfN (⟨0, by omega⟩ : Fin 1)) := ⟨ok_pfN_0_0, ok_pfN_0_1, ok_pfN_0_2, ok_pfN_0_3⟩

end Cert.KernelIdeal.Attn

end
-- ==== Proof.AttnIdeal.Cfg.lean ====
/- The pipeline at the two tables: a point's coordinates, words, staging buffers and blocks, and what the host operations before it leave. -/
module

public import proofs.«01_k».proof.Proof.AttnIdeal.Ok0

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the ideal instance: every pinned word a `BitVec`. -/
local notation "𝕄" => MT nD τ sig Unit (Elt Ideal) ℕ (UR sig nD τ) ℕ
variable (ch : Fin 1)

/-- The side condition holds of the pinned tables at EVERY member (every block inside its array), decided and matched here. -/
theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: member `ch`'s grid, 640 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## @main up to the region: the host operations before it (the frame kit's road, Lib/Pipeline/Frame.lean) -/

/-- Core `c`'s TensorCore buffers when the region is entered: after the host operations `hostOps0` (proofs.«01_k».proof.Proof.Gen.KernelIdeal.Launch). -/
abbrev V (c : Dev nD) (b : Ref sig .tc) : Buf (Elt Ideal) ((c : Thread nD τ).loc b) := StableHlo.after (hostOps0 (F := Ideal)) (fun b => m (c, b)) b

theorem hostOps0_fresh : (hostOps0 (F := Ideal) : List (HloOp τ sig (Elt Ideal))).Forall fun op => op.fresh = ∅ := by
  simp only [List.Forall]; repeat' constructor

/-- The reference each host operation before the region writes, in order. -/
abbrev hostOps0_W : List (Ref sig .tc) := [main_c, main_c_0, main_v0, main_cst, main_v1, main_cst_1, main_v2, main_v3, main_v4, main_v5, main_v6, main_v7, main_v8, main_v9, main_v10, main_v11, main_v12]
theorem hostOps0_writes : ((hostOps0 (F := Ideal)) : List (HloOp τ sig (Elt Ideal))).Forall fun op => op.writes ⊆ (hostOps0_W.map (Proc.devRef (τ := τ) .tc)).toFinset :=
  StableHlo.forall_writes_sub_of_map rfl

set_option maxHeartbeats 800000 in
/-- @main up to the region: the host operations then the region (`StableHlo.wp_seq` over the unscoped buffers, off
    `main_chain`), reaching it with the buffers at `V`. -/
theorem hmain : Pipeline.HMainP (Ix := Unit) (Name := ℕ) (U := UR sig nD τ) (Lvl := ℕ) (pcfgs (F := Ideal)) 0 defs₀ Variants.none m (main (F := Ideal)) (V m) :=
  Pipeline.hmainP_prefix (pcfgs (F := Ideal)) 0 defs₀ Variants.none m main (hostOps0 (F := Ideal)) hostOps0_sub hostOps0_fresh main_chain

/-! ### Each argument as the region finds it: as launched (no host operation before the region writes one) -/
theorem V_main_arg0 (c : Dev nD) : V m c main_arg0 = m ((c : Thread nD τ).loc main_arg0) :=
  StableHlo.after_of_writes_sub (hostOps0 (F := Ideal)) _ hostOps0_writes (by decide)
theorem V_main_arg1 (c : Dev nD) : V m c main_arg1 = m ((c : Thread nD τ).loc main_arg1) :=
  StableHlo.after_of_writes_sub (hostOps0 (F := Ideal)) _ hostOps0_writes (by decide)
theorem V_main_arg2 (c : Dev nD) : V m c main_arg2 = m ((c : Thread nD τ).loc main_arg2) :=
  StableHlo.after_of_writes_sub (hostOps0 (F := Ideal)) _ hostOps0_writes (by decide)
theorem V_main_arg3 (c : Dev nD) : V m c main_arg3 = m ((c : Thread nD τ).loc main_arg3) :=
  StableHlo.after_of_writes_sub (hostOps0 (F := Ideal)) _ hostOps0_writes (by decide)
theorem V_main_arg4 (c : Dev nD) : V m c main_arg4 = m ((c : Thread nD τ).loc main_arg4) :=
  StableHlo.after_of_writes_sub (hostOps0 (F := Ideal)) _ hostOps0_writes (by decide)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S4x64 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S128x1 .f32 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1024x128 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S512x128 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S128x512 .bf16 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S1024x128 .bf16 := spec0_5.stage ((cfgA ch).slots t (5 : Fin 6))
abbrev hs0_5 (t : Fin (cfgA ch).N) : (ms0_5 ch t).IsWhole := hstage0_5 (((cfgA ch).slots t (5 : Fin 6)).cast nbuf0_5)

/-! ## The windows' blocks -/

/-- Window `w`'s block at point `t`, read off its array as the region finds it (`V`). -/
def iblk (ρ : Dev nD → PrngReg) (c : Dev nD) (w : Fin (cfgA ch).W) (t : Fin (cfgA ch).N) : (((cfgA ch).win w).xblock (crd ch t)).Idx → Elt Ideal ((cfgA ch).win w).elt :=
  (((cfgA ch).win w).blk t).view.read (Elt Ideal) (V m c (Pipeline.arrRef spec0 w))

/-! ## The control's decisions at a point, at the pinned words (what tells the paths apart) -/

abbrev P0_0 (t : Fin (cfgA ch).N) : Prop := (Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1
abbrev P0_2 (t : Fin (cfgA ch).N) : Prop := k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1

/-- Whether scratch 0 (`cc0_scratch0`) holds nothing a point has determined, before position `n`: until a path that stores it
    whole first (A, C) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else (if P0_2 ch ⟨n, h⟩ then sfresh0_0 n else sfresh0_0 n))) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, C) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else (if P0_2 ch ⟨n, h⟩ then sfresh0_1 n else sfresh0_1 n))) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, C) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else (if P0_2 ch ⟨n, h⟩ then sfresh0_2 n else sfresh0_2 n))) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A, C) has run. -/
def sfresh0_3 : ℕ → Bool
  | 0 => true
  | n + 1 => if h : n < (cfgA ch).N then (if P0_0 ch ⟨n, h⟩ then (if P0_1 ch ⟨n, h⟩ then false else false) else (if P0_1 ch ⟨n, h⟩ then sfresh0_3 n else (if P0_2 ch ⟨n, h⟩ then sfresh0_3 n else sfresh0_3 n))) else true

/-- Its CLOSED FORM: fresh before position `n` iff no point below `n` covers it — `n` at most member `ch`'s first covering
    point (read off the walk; the recursion's step is decided against it point by point, the recursion never run). -/
def sfirst0_3 (ch : Fin 1) : ℕ := 0
def sfrTab0_3 : ℕ → Bool := fun n => decide (n ≤ sfirst0_3 ch)

set_option backward.proofsInPublic true in
/-- Whether output 5 holds junk BEFORE each position `1 ‥ N` of member `ch`'s grid — nothing stored into it since
    its last write-back —: the classifier's table (written back at the point before, or idle there and junk
    before it) as a bitmask, bit `n` for position `n + 1`, which `frTab0_5_step` checks against the pipeline's
    own recursion point by point (a bit test is one kernel step; a list walk or the recursion, hundreds). -/
def frMask0_5 : Fin 1 → ℕ
  | ⟨0, _⟩ => 0xffffffffffffffffffffffffffffffffffffffffffffffffffffffffffffffffffffffffffffffffffffffffffffffffffffffffffffffffffffffffffffffffffffffffffffffffffffffffffffffff
  | ⟨_ + 1, h⟩ => absurd h (by omega)
/-- `(cfgA ch).fresh 5` TABULATED (TableIdle.lean `Cfg.fresh_tab`): true before the first point, then the table. -/
def frTab0_5 : ℕ → Bool
  | 0 => true
  | n + 1 => (frMask0_5 ch).testBit n

end Cert.KernelIdeal.Attn

end
-- ==== Proof.AttnIdeal.Facts.lean ====
/- What is decided at each of the 640 points, as one proposition. -/
module

public import proofs.«01_k».proof.Proof.AttnIdeal.Cfg

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the ideal instance: every pinned word a `BitVec`. -/
local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, frTab0_5_step, hyps0_A, sched0_A, hyps0_B, sched0_B, hyps0_C, sched0_C, hyps0_D, sched0_D, hyps0_E, sched0_E
  (sfrTab0_0 ch (t.val + 1) = (if P0_0 ch t then (if P0_1 ch t then false else false) else (if P0_1 ch t then sfrTab0_0 ch t.val else (if P0_2 ch t then sfrTab0_0 ch t.val else sfrTab0_0 ch t.val))))
  ∧ (sfrTab0_1 ch (t.val + 1) = (if P0_0 ch t then (if P0_1 ch t then false else false) else (if P0_1 ch t then sfrTab0_1 ch t.val else (if P0_2 ch t then sfrTab0_1 ch t.val else sfrTab0_1 ch t.val))))
  ∧ (sfrTab0_2 ch (t.val + 1) = (if P0_0 ch t then (if P0_1 ch t then false else false) else (if P0_1 ch t then sfrTab0_2 ch t.val else (if P0_2 ch t then sfrTab0_2 ch t.val else sfrTab0_2 ch t.val))))
  ∧ (sfrTab0_3 ch (t.val + 1) = (if P0_0 ch t then (if P0_1 ch t then false else false) else (if P0_1 ch t then sfrTab0_3 ch t.val else (if P0_2 ch t then sfrTab0_3 ch t.val else sfrTab0_3 ch t.val))))
  ∧ (frTab0_5 ch (t.val + 1) = (((cfgA ch).win (5 : Fin 6)).flush t || ((cfgA ch).idle (5 : Fin 6) ((cfgA ch).grid.coords t) && frTab0_5 ch t.val)))
  ∧ (P0_0 ch t → ¬P0_1 ch t → ((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))))
  ∧ (P0_0 ch t → ¬P0_1 ch t → (cfgA ch).idle (5 : Fin 6) ((cfgA ch).grid.coords t) = true ∧ ((cfgA ch).win (5 : Fin 6)).flush t = false ∧ frTab0_5 ch t.val = true ∧ sfrTab0_0 ch (t.val + 1) = false ∧ sfrTab0_1 ch (t.val + 1) = false ∧ sfrTab0_2 ch (t.val + 1) = false ∧ sfrTab0_3 ch (t.val + 1) = false)
  ∧ (¬P0_0 ch t → ¬P0_1 ch t → P0_2 ch t → (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1) ∧ (True)))))
  ∧ (¬P0_0 ch t → ¬P0_1 ch t → P0_2 ch t → (cfgA ch).idle (5 : Fin 6) ((cfgA ch).grid.coords t) = false ∧ ((cfgA ch).win (5 : Fin 6)).flush t = true ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (P0_0 ch t → P0_1 ch t → ((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1) ∧ ((¬((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1)) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))))
  ∧ (P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → P0_1 ch t → (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1) ∧ ((¬((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1)) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))))
  ∧ (¬P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → ¬P0_2 ch t → (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))))
  ∧ (¬P0_0 ch t → ¬P0_1 ch t → ¬P0_2 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))))

end Cert.KernelIdeal.Attn

end
-- ==== Proof.AttnIdeal.Facts0.lean ====
/- The facts of each point, decided in slices of the grid. -/
module

public import proofs.«01_k».proof.Proof.AttnIdeal.Facts

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the ideal instance: every pinned word a `BitVec`. -/
local notation "𝕄" => MT nD τ sig Unit (Elt Ideal) ℕ (UR sig nD τ) ℕ

theorem allFacts_0_0 : ∀ t : Fin (cfgA (⟨0, by omega⟩ : Fin 1)).N, 0 ≤ t.val → t.val < 80 → FactsAt (⟨0, by omega⟩ : Fin 1) t := by decide +kernel
theorem allFacts_0_1 : ∀ t : Fin (cfgA (⟨0, by omega⟩ : Fin 1)).N, 80 ≤ t.val → t.val < 160 → FactsAt (⟨0, by omega⟩ : Fin 1) t := by decide +kernel
theorem allFacts_0_2 : ∀ t : Fin (cfgA (⟨0, by omega⟩ : Fin 1)).N, 160 ≤ t.val → t.val < 240 → FactsAt (⟨0, by omega⟩ : Fin 1) t := by decide +kernel
theorem allFacts_0_3 : ∀ t : Fin (cfgA (⟨0, by omega⟩ : Fin 1)).N, 240 ≤ t.val → t.val < 320 → FactsAt (⟨0, by omega⟩ : Fin 1) t := by decide +kernel
theorem allFacts_0_4 : ∀ t : Fin (cfgA (⟨0, by omega⟩ : Fin 1)).N, 320 ≤ t.val → t.val < 400 → FactsAt (⟨0, by omega⟩ : Fin 1) t := by decide +kernel
theorem allFacts_0_5 : ∀ t : Fin (cfgA (⟨0, by omega⟩ : Fin 1)).N, 400 ≤ t.val → t.val < 480 → FactsAt (⟨0, by omega⟩ : Fin 1) t := by decide +kernel
theorem allFacts_0_6 : ∀ t : Fin (cfgA (⟨0, by omega⟩ : Fin 1)).N, 480 ≤ t.val → t.val < 560 → FactsAt (⟨0, by omega⟩ : Fin 1) t := by decide +kernel
theorem allFacts_0_7 : ∀ t : Fin (cfgA (⟨0, by omega⟩ : Fin 1)).N, 560 ≤ t.val → t.val < 640 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 80 with h1 | h1; · exact allFacts_0_0 t h0 h1
  rcases Nat.lt_or_ge t.val 160 with h2 | h2; · exact allFacts_0_1 t h1 h2
  rcases Nat.lt_or_ge t.val 240 with h3 | h3; · exact allFacts_0_2 t h2 h3
  rcases Nat.lt_or_ge t.val 320 with h4 | h4; · exact allFacts_0_3 t h3 h4
  rcases Nat.lt_or_ge t.val 400 with h5 | h5; · exact allFacts_0_4 t h4 h5
  rcases Nat.lt_or_ge t.val 480 with h6 | h6; · exact allFacts_0_5 t h5 h6
  rcases Nat.lt_or_ge t.val 560 with h7 | h7; · exact allFacts_0_6 t h6 h7
  exact allFacts_0_7 t h7 t.isLt

end Cert.KernelIdeal.Attn

end
-- ==== Proof.AttnIdeal.Run.lean ====
/- The whole run: the values each point leaves, the body's obligation at each point, and the launch's end state. -/
module

public import proofs.«01_k».proof.Proof.AttnIdeal.Runs
public import proofs.«01_k».proof.Proof.AttnIdeal.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the ideal instance: every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

attribute [local irreducible] pinT_0 pinT_1

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else false) else (if P0_1 ch t then sfrTab0_0 ch t.val else (if P0_2 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else (if P0_2 ch t then sfrTab0_1 ch t.val else sfrTab0_1 ch t.val))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else (if P0_2 ch t then sfrTab0_2 ch t.val else sfrTab0_2 ch t.val))) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then (if P0_1 ch t then false else false) else (if P0_1 ch t then sfrTab0_3 ch t.val else (if P0_2 ch t then sfrTab0_3 ch t.val else sfrTab0_3 ch t.val))) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem frTab0_5_step : ∀ (ch : Fin 1) (t : Fin (cfgA ch).N),
    frTab0_5 ch (t.val + 1) = (((cfgA ch).win (5 : Fin 6)).flush t || ((cfgA ch).idle (5 : Fin 6) ((cfgA ch).grid.coords t) && frTab0_5 ch t.val)) := fun ch t => (allFacts ch t).2.2.2.2.1
theorem freshF0_5 (t : Fin (cfgA ch).N) : (cfgA ch).fresh (5 : Fin 6) t.val = frTab0_5 ch t.val :=
  Pipeline.Cfg.fresh_tab (cfgA ch) (5 : Fin 6) (frTab0_5 ch) rfl (frTab0_5_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → ¬P0_1 ch t →
    ((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.1

theorem hypsR0_A : ∀ (ch : Fin 1) (t : Fin (cfgA ch).N), P0_0 ch t → ¬P0_1 ch t →
    ((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t →
    (cfgA ch).idle (5 : Fin 6) ((cfgA ch).grid.coords t) = true ∧ ((cfgA ch).win (5 : Fin 6)).flush t = false ∧ (cfgA ch).fresh (5 : Fin 6) t.val = true ∧ sfresh0_0 ch (t.val + 1) = false ∧ sfresh0_1 ch (t.val + 1) = false ∧ sfresh0_2 ch (t.val + 1) = false ∧ sfresh0_3 ch (t.val + 1) = false := by
  intro ch t; rw [freshF0_5 ch t, sfreshS0_0 ch t, sfreshS0_1 ch t, sfreshS0_2 ch t, sfreshS0_3 ch t]; exact (fun ch t => (allFacts ch t).2.2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), ¬P0_0 ch t → ¬P0_1 ch t → P0_2 ch t →
    (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1) ∧ (True)))) := fun ch t => (allFacts ch t).2.2.2.2.2.2.2.1

theorem hypsR0_B : ∀ (ch : Fin 1) (t : Fin (cfgA ch).N), ¬P0_0 ch t → ¬P0_1 ch t → P0_2 ch t →
    (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1) ∧ (True)))) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), ¬P0_0 ch t → ¬P0_1 ch t → P0_2 ch t →
    (cfgA ch).idle (5 : Fin 6) ((cfgA ch).grid.coords t) = false ∧ ((cfgA ch).win (5 : Fin 6)).flush t = true ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), P0_0 ch t → P0_1 ch t →
    ((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1) ∧ ((¬((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1)) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.1

theorem hypsR0_C : ∀ (ch : Fin 1) (t : Fin (cfgA ch).N), P0_0 ch t → P0_1 ch t →
    ((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1) ∧ ((¬((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1)) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), P0_0 ch t → P0_1 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1) ∧ ((¬((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1)) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.2.2.1

theorem hypsR0_D : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1) ∧ ((¬((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1)) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → P0_1 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2.1) ch t

/-- At a point of path E, the path's hypotheses hold of the words the body reads there (the pinned tables read,
    a pinned window's word AS the word `pinBlk ch t (r.idx x)`; the checks among them cited from `ChecksAt`). -/
theorem hyps0_E : ∀ (ch : Fin 1) (t : Fin (cfgA ch).N), ¬P0_0 ch t → ¬P0_1 ch t → ¬P0_2 ch t →
    (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.2.2.2.2.1

theorem hypsR0_E : ∀ (ch : Fin 1) (t : Fin (cfgA ch).N), ¬P0_0 ch t → ¬P0_1 ch t → ¬P0_2 ch t →
    (¬((Scalar.cmpi .ne (Scalar.extui (Scalar.cmpi .eq (View.readAt (Elt Ideal) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.xori (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Ideal) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Ideal) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((¬(k0_cond4 (View.readAt (Elt Ideal) (tbM0_0).view (Rect.unit (s := S20) (k0_off1 (crd ch t)) S1.size (k0_off1_inb (crd ch t))).toLoadRect (pinT_0 ch) (Shape.Idx.first (numel1_S1.symm ▸ Nat.one_pos))) (View.readAt (Elt Ideal) (tbM0_1).view (Rect.unit (s := S20) (k0_off1 (crd ch t)) S1.size (k0_off1_inb (crd ch t))).toLoadRect (pinT_1 ch) (Shape.Idx.first (numel1_S1.symm ▸ Nat.one_pos))) = 1#1)) ∧ (True)))) := hyps0_E

/-- At a point of path E: the idle table, the write-backs and which buffers hold junk (decided over the
    freshness tables `frTab`/`sfrTab`, restated over `Cfg.fresh`/`sfresh` by their agreement). -/
theorem sched0_E : ∀ (ch : Fin 1) (t : Fin (cfgA ch).N), ¬P0_0 ch t → ¬P0_1 ch t → ¬P0_2 ch t →
    (cfgA ch).idle (5 : Fin 6) ((cfgA ch).grid.coords t) = true ∧ ((cfgA ch).win (5 : Fin 6)).flush t = false ∧ (cfgA ch).fresh (5 : Fin 6) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_5 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2.2.2) ch t

/-! ## What the outputs and scratches hold after each point -/

/-- ONE STEP of the trajectory: what the outputs' current buffers and the scratches hold after the body at point `t`
    (output 5, scratch 0, scratch 1, scratch 2, scratch 3), from what they held before (`prev`): the path the decisions select at `t`, its
    run's contents; an output the path leaves idle keeps what it held (junk — `default`, named by nothing — where fresh). -/
def step0 (c : Dev nD) (t : Fin (cfgA ch).N) (prev : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if q0 : P0_0 ch t then
    if q1 : P0_1 ch t then
      ((if (cfgA ch).fresh (5 : Fin 6) t.val then default else prev.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_C ch t q0 q1).1 (hypsR0_C ch t q0 q1).2.1 (hypsR0_C ch t q0 q1).2.2.1 (hypsR0_C ch t q0 q1).2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_C ch t q0 q1).1 (hypsR0_C ch t q0 q1).2.1 (hypsR0_C ch t q0 q1).2.2.1 (hypsR0_C ch t q0 q1).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_C ch t q0 q1).1 (hypsR0_C ch t q0 q1).2.1 (hypsR0_C ch t q0 q1).2.2.1 (hypsR0_C ch t q0 q1).2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_C ch t q0 q1).1 (hypsR0_C ch t q0 q1).2.1 (hypsR0_C ch t q0 q1).2.2.1 (hypsR0_C ch t q0 q1).2.2.2.1).2.2.2.1)
    else
      ((if (cfgA ch).fresh (5 : Fin 6) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1).2.2.2.1)
  else
    if q1 : P0_1 ch t then
      ((if (cfgA ch).fresh (5 : Fin 6) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1 (hypsR0_D ch t q0 q1).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1 (hypsR0_D ch t q0 q1).2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1 (hypsR0_D ch t q0 q1).2.2.2.1).2.2.2.1)
    else
      if q2 : P0_2 ch t then
        (out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1).2.2.2.2.1)
      else
        ((if (cfgA ch).fresh (5 : Fin 6) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.2.1)

/-- THE TRAJECTORY: after position `n`. -/
def traj0 (c : Dev nD) : (n : ℕ) → n < (cfgA ch).N → (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)
  | 0, h => step0 ch m ρ c ⟨0, h⟩ (default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if h : t.val = 0 then (default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : P0_0 ch t) (q1 : ¬P0_1 ch t) :
    step0 ch m ρ c t prev = ((if (cfgA ch).fresh (5 : Fin 6) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 (hypsR0_A ch t q0 q1).2.2.2.1).2.2.2.1) := by
  unfold step0; simp only [dif_pos q0, dif_neg q1]

/-- `step0` at a point of path B. -/
theorem step0_B (c : Dev nD) (t : Fin (cfgA ch).N) (prev : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : ¬P0_1 ch t) (q2 : P0_2 ch t) :
    step0 ch m ρ c t prev = (out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1).2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_B ch t q0 q1 q2).1 (hypsR0_B ch t q0 q1 q2).2.1 (hypsR0_B ch t q0 q1 q2).2.2.1 (hypsR0_B ch t q0 q1 q2).2.2.2.1).2.2.2.2.1) := by
  unfold step0; simp only [dif_neg q0, dif_neg q1, dif_pos q2]

/-- `step0` at a point of path C. -/
theorem step0_C (c : Dev nD) (t : Fin (cfgA ch).N) (prev : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : P0_0 ch t) (q1 : P0_1 ch t) :
    step0 ch m ρ c t prev = ((if (cfgA ch).fresh (5 : Fin 6) t.val then default else prev.1), (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_C ch t q0 q1).1 (hypsR0_C ch t q0 q1).2.1 (hypsR0_C ch t q0 q1).2.2.1 (hypsR0_C ch t q0 q1).2.2.2.1).1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_C ch t q0 q1).1 (hypsR0_C ch t q0 q1).2.1 (hypsR0_C ch t q0 q1).2.2.1 (hypsR0_C ch t q0 q1).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_C ch t q0 q1).1 (hypsR0_C ch t q0 q1).2.1 (hypsR0_C ch t q0 q1).2.2.1 (hypsR0_C ch t q0 q1).2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_C ch t q0 q1).1 (hypsR0_C ch t q0 q1).2.1 (hypsR0_C ch t q0 q1).2.2.1 (hypsR0_C ch t q0 q1).2.2.2.1).2.2.2.1) := by
  unfold step0; simp only [dif_pos q0, dif_pos q1]

/-- `step0` at a point of path D. -/
theorem step0_D (c : Dev nD) (t : Fin (cfgA ch).N) (prev : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : P0_1 ch t) :
    step0 ch m ρ c t prev = ((if (cfgA ch).fresh (5 : Fin 6) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1 (hypsR0_D ch t q0 q1).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1 (hypsR0_D ch t q0 q1).2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_D ch t q0 q1).1 (hypsR0_D ch t q0 q1).2.1 (hypsR0_D ch t q0 q1).2.2.1 (hypsR0_D ch t q0 q1).2.2.2.1).2.2.2.1) := by
  unfold step0; simp only [dif_neg q0, dif_pos q1]

/-- `step0` at a point of path E. -/
theorem step0_E (c : Dev nD) (t : Fin (cfgA ch).N) (prev : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : ¬P0_1 ch t) (q2 : ¬P0_2 ch t) :
    step0 ch m ρ c t prev = ((if (cfgA ch).fresh (5 : Fin 6) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.2.1) := by
  unfold step0; simp only [dif_neg q0, dif_neg q1, dif_neg q2]

/-! ## The pipeline's proof data -/

/-- What the tracked buffers held before position `t` of `Fin (N+1)` (the invariant's index). -/
def prev0T (c : Dev nD) (t : Fin ((cfgA ch).N + 1)) : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if h : t.val = 0 then (default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2⌝ ∗ (scM0_3.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := V m c (Pipeline.arrRef spec0 w)
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt).1
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- Output 5's `after` carries through the points that leave it idle. -/
theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · by_cases q1 : P0_1 ch t
    · rw [step0_C ch m ρ c t _ q0 q1]
      simp only [hf, Bool.false_eq_true, ↓reduceIte]
      unfold prev0; rw [dif_neg ht]
    · rw [step0_A ch m ρ c t _ q0 q1]
      simp only [hf, Bool.false_eq_true, ↓reduceIte]
      unfold prev0; rw [dif_neg ht]
  · by_cases q1 : P0_1 ch t
    · rw [step0_D ch m ρ c t _ q0 q1]
      simp only [hf, Bool.false_eq_true, ↓reduceIte]
      unfold prev0; rw [dif_neg ht]
    · by_cases q2 : P0_2 ch t
      · obtain ⟨i5, -, -, -, -, -, -, -, -, -, -⟩ := sched0_B ch t q0 q1 q2
        rw [i5] at hi; exact absurd hi (by decide)
      · rw [step0_E ch m ρ c t _ q0 q1 q2]
        simp only [hf, Bool.false_eq_true, ↓reduceIte]
        unfold prev0; rw [dif_neg ht]

/-- Output window 5 holds, when the body runs at `t`: junk if nothing was stored since its last write-back (`Cfg.fresh`),
    else what the point before left (TableIdle.lean `Dat.before_out_traj`). -/
theorem before0_5 (c : Dev nD) (t : Fin (cfgA ch).N) (d) :
    (dats ch m ρ 0 c).before (5 : Fin 6) t d = if (cfgA ch).fresh (5 : Fin 6) t.val then d else (prev0 ch m ρ c t).1 := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_diff_prompt (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i5, f5, fr5, sf0, sfn0, sf1, sfn1, sf2, sfn2, sf3, sfn3⟩ := sched0_C ch t q0 q1
      have F0 := hypsR0_C ch t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) hc0 hc1 hc2 k0_h4).2.2.2.2 _ a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · obtain ⟨i5, f5, fr5, sfn0, sfn1, sfn2, sfn3⟩ := sched0_A ch t q0 q1
      have F0 := hypsR0_A ch t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) hc0 hc1 hc2 k0_h4).2.2.2.2 _ a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
  · by_cases q1 : P0_1 ch t
    · obtain ⟨i5, f5, fr5, sf0, sfn0, sf1, sfn1, sf2, sfn2, sf3, sfn3⟩ := sched0_D ch t q0 q1
      have F0 := hypsR0_D ch t q0 q1
      have hc0 := F0.1; have F1 := F0.2
      have hc1 := F1.1; have F2 := F1.2
      have hc2 := F2.1; have F3 := F2.2
      have k0_h4 := F3.1; have F4 := F3.2
      clear F0 F1 F2 F3 F4
      rewrite [i5]
      simp only [before0_0, before0_1, before0_2, before0_3, before0_4, before0_5, after0_0, after0_1, after0_2, after0_3, after0_4, after0_5, f5]
      simp only [fr5, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      simp only [exists_held sf0, exists_held sf1, exists_held sf2, exists_held sf3]
      iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ _ hc0 hc1 hc2 k0_h4).2.2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      isplitl [HS2]; · iexact HS2
      isplitl [HS3]; · iexact HS3
      iintro ⟨H0, H1, H2, H3, H4, HT0, HT1, H5, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      first | (iexists d5; iexact H5) | iexact H5
    · by_cases q2 : P0_2 ch t
      · obtain ⟨i5, f5, fr5, sf0, sfn0, sf1, sfn1, sf2, sfn2, sf3, sfn3⟩ := sched0_B ch t q0 q1 q2
        have F0 := hypsR0_B ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ _ hc0 hc1 hc2 k0_h4).2.2.2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexists _; iexact H5
        isplitl [HS0]; · iexact HS0
        isplitl [HS1]; · iexact HS1
        isplitl [HS2]; · iexact HS2
        isplitl [HS3]; · iexact HS3
        iintro ⟨H0, H1, H2, H3, H4, HT0, HT1, ⟨%e5, H5⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        unfold owns; iexists _; isplitr; swap
        · iexact H5
        · ipureintro; exact View.read_writes_of_cover _ _ _ _ _ (cover0_B_5 c _ _ _ _ _ _ _ _ _ _ _ _ _ _ _ _ _ _ _ _ _ _ _ _ _ _ _ _)
      · obtain ⟨i5, f5, fr5, sf0, sfn0, sf1, sfn1, sf2, sfn2, sf3, sfn3⟩ := sched0_E ch t q0 q1 q2
        have F0 := hypsR0_E ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i5]
        simp only [before0_0, before0_1, before0_2, before0_3, before0_4, before0_5, after0_0, after0_1, after0_2, after0_3, after0_4, after0_5, f5]
        simp only [fr5, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_E ch m ρ c t _ q0 q1 q2]
        unfold Phi; simp only [prev0T_castSucc, prev0T_succ, traj0_eq, step0_E ch m ρ c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩⟩
        iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) _ _ _ _ hc0 hc1 hc2 k0_h4).2.2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        isplitl [HT1]; · iexact HT1
        isplitl [H5]; · iexact H5
        isplitl [HS0]; · iexact HS0
        isplitl [HS1]; · iexact HS1
        isplitl [HS2]; · iexact HS2
        isplitl [HS3]; · iexact HS3
        iintro ⟨H0, H1, H2, H3, H4, HT0, HT1, H5, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        first | (iexists d5; iexact H5) | iexact H5

/-- The library's body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, -, -⟩
  isplitr; · iempintro
  isplitl [HS0]
  · iexists a0; iexact HS0
  isplitl [HS1]
  · iexists a1; iexact HS1
  isplitl [HS2]
  · iexists a2; iexact HS2
  iexists a3; iexact HS3

end Cert.KernelIdeal.Attn

end
-- ==== Proof.AttnIdeal.Post.lean ====
/- The launch's end state and the frame. -/
module

public import proofs.«01_k».proof.Proof.AttnIdeal.Run
public import Idealize.ShloMosaic.Lib.StableHlo.RunRead
public import Idealize.ShloMosaic.Lib.Claim
public import Idealize.ShloMosaic.Lib.Pipeline.Quiescent

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Fin 1)
variable (m : (ℓ : Loc nD τ sig) → Buf (Elt Ideal) ℓ) (ρ : Dev nD → PrngReg)

/-- The end state: every window's array at what the library computes, every table at what the pipeline ran at, and every other
    buffer of the core as the region found it. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ (∀ j, r.2.mem ((c : Thread nD τ).loc (pre0.ref j)) = (adm ch).1 j)
    ∧ ∀ b ∈ Pipeline.restRefsP sig pre0 spec0, r.2.mem ((c : Thread nD τ).loc b) = V m c b

theorem lit0_eq : ∀ i : Fin 20, lit0 i = (([0#32, 0#32, 1#32, 1#32, 1#32, 1#32, 2#32, 2#32, 2#32, 2#32, 2#32, 2#32, 3#32, 3#32, 3#32, 3#32, 3#32, 3#32, 3#32, 3#32] : List (BitVec 32)).getD i.val 0#32) := by
  decide

theorem lit1_eq : ∀ i : Fin 20, lit1 i = (([0#32, 1#32, 0#32, 1#32, 2#32, 3#32, 0#32, 1#32, 2#32, 3#32, 4#32, 5#32, 0#32, 1#32, 2#32, 3#32, 4#32, 5#32, 6#32, 7#32] : List (BitVec 32)).getD i.val 0#32) := by
  decide

theorem rowMajor_S20 (x : S20.Idx) : (S20.rowMajor x).val = (x 0).val := by
  rw [Shape.rowMajor_val_one]

/-- The first table as the region finds it: what the first host operation writes. -/
theorem V_table0 (c : Dev nD) : V m c main_c = pinT_0 ch := by
  have h : V m c main_c = fun i => lit0 (S20.rowMajor i) := by
    unfold V
    after_reads_simp
    rfl
  rw [h]; funext x
  refine (lit0_eq (S20.rowMajor x)).trans ?_
  unfold pinT_0
  rw [rowMajor_S20]

/-- The second table as the region finds it. -/
theorem V_table1 (c : Dev nD) : V m c main_c_0 = pinT_1 ch := by
  have h : V m c main_c_0 = fun i => lit1 (S20.rowMajor i) := by
    unfold V
    after_reads_simp
    rfl
  rw [h]; funext x
  refine (lit1_eq (S20.rowMajor x)).trans ?_
  unfold pinT_1
  rw [rowMajor_S20]

theorem V_pre (c : Dev nD) (j : Fin 2) : V m c (pre0.ref j) = (adm ch).1 j := by
  fin_cases j
  · exact V_table0 ch m c
  · exact V_table1 ch m c

set_option backward.isDefEq.respectTransparency.types false in
set_option maxHeartbeats 4000000 in
/-- At the compiled mesh, from any memory with zero counters: every weakly fair execution of @main terminates, in an end state
    `QC` and with every semaphore counter at zero. -/
theorem run_main : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := V m)
    (hmain := hmain m)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro HU
      isplitr; · iempintro
      iexact HU)
    (hin := phi0_intro ch m ρ)
    (hout := phiN_exit ch m ρ)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun _ h hz => ⟨fun c => ⟨(h c).1, (h c).2.1, (h c).2.2⟩, hz⟩)

/-- What a run leaves in the arguments: what it found there. -/
theorem args_kept (r : PUnit × MemSt nD τ sig (Elt Ideal)) (h : QC ch m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2.2 main_arg0 (by decide)).trans (V_main_arg0 m c), ((h c).2.2 main_arg1 (by decide)).trans (V_main_arg1 m c),
    ((h c).2.2 main_arg2 (by decide)).trans (V_main_arg2 m c),
    ((h c).1 (0 : Fin 6)).trans (((dats ch m ρ 0 c).arrAt_in (0 : Fin 6) rfl _).trans (V_main_arg3 m c)),
    ((h c).2.2 main_arg4 (by decide)).trans (V_main_arg4 m c)⟩

/-- The frame: every weakly fair execution terminates, nothing faults, every argument array ends unchanged and every semaphore
    counter reads zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept 0 m ρ r h.1 c, h.2⟩) (run_main 0 m ρ)

end Cert.KernelIdeal.Attn

end
-- ==== Proof.AttnBits.Runs.lean ====
/- The body's run along each of its five control paths. -/
module

public import proofs.«01_k».proof.Proof.Gen.Kernel.Skeleton
public import proofs.«01_k».proof.Proof.AttnBits.Pins

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-! ## The kernel body per control path, on symbolic staging memrefs: a subtype the run finds -/

/-- One staging buffer of output window 5, through which its contents are stated (`View.read_writes_of_cover`). -/
abbrev VO0_5 : View sig .tc .vmem S1024x128 .bf16 := (Memref.whole cc0_stg5_0 : Memref sig .tc .vmem S1024x128 .bf16).view

set_option backward.proofsInPublic true in
set_option maxHeartbeats 8000000 in
/-- PATH A (points 0, 20, … 620: 32 of 640): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Bits .i32)) (T1 : (S20.Idx → Elt Bits .i32))
     (x0 : (S4x64.Idx → Elt Bits .f32)) (x1 : (S128x1.Idx → Elt Bits .f32)) (x2 : (S1024x128.Idx → Elt Bits .bf16)) (x3 : (S512x128.Idx → Elt Bits .bf16)) (x4 : (S128x512.Idx → Elt Bits .bf16)) (hc0 : (Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) 0#32)) 0#32) = 1#1) (hc1 : ¬((Scalar.cmpi .ne (Scalar.extui (Scalar.xori (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32))) 0#32) = 1#1) (k0_h4 : ¬(k0_cond4 (View.readAt (Elt Bits) (tbM0_0).view (Rect.unit (s := S20) (k0_off1 i) S1.size (k0_off1_inb i)).toLoadRect T0 (Shape.Idx.first (numel1_S1.symm ▸ Nat.one_pos))) (View.readAt (Elt Bits) (tbM0_1).view (Rect.unit (s := S20) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_diff_prompt_eq_skeleton]; unfold cc0_diff_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH B (points 1, 5, … 639: 128 of 640): what the body leaves — per stored output its pieces (last first), per scratch its
    contents — WITH the proof that, on whole staging memrefs, from the inputs at their blocks, the tables, the outputs
    (5: stored) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Bits .i32)) (T1 : (S20.Idx → Elt Bits .i32))
     (x0 : (S4x64.Idx → Elt Bits .f32)) (x1 : (S128x1.Idx → Elt Bits .f32)) (x2 : (S1024x128.Idx → Elt Bits .bf16)) (x3 : (S512x128.Idx → Elt Bits .bf16)) (x4 : (S128x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) 0#32)) 0#32) = 1#1)) (hc1 : ¬((Scalar.cmpi .ne (Scalar.extui (Scalar.xori (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32))) 0#32) = 1#1) (k0_h4 : k0_cond4 (View.readAt (Elt Bits) (tbM0_0).view (Rect.unit (s := S20) (k0_off1 i) S1.size (k0_off1_inb i)).toLoadRect T0 (Shape.Idx.first (numel1_S1.symm ▸ Nat.one_pos))) (View.readAt (Elt Bits) (tbM0_1).view (Rect.unit (s := S20) (k0_off1 i) S1.size (k0_off1_inb i)).toLoadRect T1 (Shape.Idx.first (numel1_S1.symm ▸ Nat.one_pos))) = 1#1) :
    Σ' (out0 : List (View.Piece (Elt Bits) S1024x128 .bf16)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun K => by
    unfold owns
    rw [cc0_diff_prompt_eq_skeleton]; unfold cc0_diff_prompt_skel
    iintro ⟨H0, H1, H2, H3, H4, HT0, HT1, ⟨%d5, %f5, -, HO5⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    isplitl [HS2]; · iexact HS2
    iexact HS3⟩

/-- Path B's pieces for output 5 tile its block (1 store of `S1024x128`: the kernel evaluates the tiling, Lib/Ring.lean `Piece.tiledL`). -/
theorem cover0_B_5 (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Bits .i32)) (T1 : (S20.Idx → Elt Bits .i32))
     (x0 : (S4x64.Idx → Elt Bits .f32)) (x1 : (S128x1.Idx → Elt Bits .f32)) (x2 : (S1024x128.Idx → Elt Bits .bf16)) (x3 : (S512x128.Idx → Elt Bits .bf16)) (x4 : (S128x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) 0#32)) 0#32) = 1#1)) (hc1 : ¬((Scalar.cmpi .ne (Scalar.extui (Scalar.xori (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32))) 0#32) = 1#1) (k0_h4 : k0_cond4 (View.readAt (Elt Bits) (tbM0_0).view (Rect.unit (s := S20) (k0_off1 i) S1.size (k0_off1_inb i)).toLoadRect T0 (Shape.Idx.first (numel1_S1.symm ▸ Nat.one_pos))) (View.readAt (Elt Bits) (tbM0_1).view (Rect.unit (s := S20) (k0_off1 i) S1.size (k0_off1_inb i)).toLoadRect T1 (Shape.Idx.first (numel1_S1.symm ▸ Nat.one_pos))) = 1#1) (y : S1024x128.Idx) :
    ∃ pc ∈ (kernelRun0_B c i arg5 harg5 arg6 harg6 arg7 harg7 arg8 harg8 arg9 harg9 arg10 harg10 T0 T1 x0 x1 x2 x3 x4 xa0 xa1 xa2 xa3 hc0 hc1 hc2 k0_h4).1, y ∈ pc.1.set :=
  View.cover_of_tiledL (kernelRun0_B c i arg5 harg5 arg6 harg6 arg7 harg7 arg8 harg8 arg9 harg9 arg10 harg10 T0 T1 x0 x1 x2 x3 x4 xa0 xa1 xa2 xa3 hc0 hc1 hc2 k0_h4).1 S1024x128.size (by sl_kernel_rfl) y

/-- What path B leaves in output 5's staging buffer: its pieces read back over junk. -/
def out0_B_5 (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Bits .i32)) (T1 : (S20.Idx → Elt Bits .i32))
     (x0 : (S4x64.Idx → Elt Bits .f32)) (x1 : (S128x1.Idx → Elt Bits .f32)) (x2 : (S1024x128.Idx → Elt Bits .bf16)) (x3 : (S512x128.Idx → Elt Bits .bf16)) (x4 : (S128x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) 0#32)) 0#32) = 1#1)) (hc1 : ¬((Scalar.cmpi .ne (Scalar.extui (Scalar.xori (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32))) 0#32) = 1#1) (k0_h4 : k0_cond4 (View.readAt (Elt Bits) (tbM0_0).view (Rect.unit (s := S20) (k0_off1 i) S1.size (k0_off1_inb i)).toLoadRect T0 (Shape.Idx.first (numel1_S1.symm ▸ Nat.one_pos))) (View.readAt (Elt Bits) (tbM0_1).view (Rect.unit (s := S20) (k0_off1 i) S1.size (k0_off1_inb i)).toLoadRect T1 (Shape.Idx.first (numel1_S1.symm ▸ Nat.one_pos))) = 1#1) : (S1024x128.Idx → Elt Bits .bf16) :=
  VO0_5.read (Elt Bits) (VO0_5.writes (Elt Bits) VO0_5.junk (kernelRun0_B c i arg5 harg5 arg6 harg6 arg7 harg7 arg8 harg8 arg9 harg9 arg10 harg10 T0 T1 x0 x1 x2 x3 x4 xa0 xa1 xa2 xa3 hc0 hc1 hc2 k0_h4).1)

set_option backward.proofsInPublic true in
set_option maxHeartbeats 8000000 in
/-- PATH C (points 2, 6, … 632: 96 of 640): what the body leaves — per stored output its pieces (last first), per scratch its
    contents — WITH the proof that, on whole staging memrefs, from the inputs at their blocks, the tables, the outputs
    (5: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Bits .i32)) (T1 : (S20.Idx → Elt Bits .i32))
     (x0 : (S4x64.Idx → Elt Bits .f32)) (x1 : (S128x1.Idx → Elt Bits .f32)) (x2 : (S1024x128.Idx → Elt Bits .bf16)) (x3 : (S512x128.Idx → Elt Bits .bf16)) (x4 : (S128x512.Idx → Elt Bits .bf16)) (hc0 : (Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) 0#32)) 0#32) = 1#1) (hc1 : (Scalar.cmpi .ne (Scalar.extui (Scalar.xori (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32)) 1#1)) 0#32) = 1#1) (hc2 : ¬((Scalar.cmpi .ne (Scalar.extui (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32))) 0#32) = 1#1)) (k0_h4 : ¬(k0_cond4 (View.readAt (Elt Bits) (tbM0_0).view (Rect.unit (s := S20) (k0_off1 i) S1.size (k0_off1_inb i)).toLoadRect T0 (Shape.Idx.first (numel1_S1.symm ▸ Nat.one_pos))) (View.readAt (Elt Bits) (tbM0_1).view (Rect.unit (s := S20) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_diff_prompt_eq_skeleton]; unfold cc0_diff_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH D (points 3, 7, … 637: 288 of 640): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Bits .i32)) (T1 : (S20.Idx → Elt Bits .i32))
     (x0 : (S4x64.Idx → Elt Bits .f32)) (x1 : (S128x1.Idx → Elt Bits .f32)) (x2 : (S1024x128.Idx → Elt Bits .bf16)) (x3 : (S512x128.Idx → Elt Bits .bf16)) (x4 : (S128x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) 0#32)) 0#32) = 1#1)) (hc1 : (Scalar.cmpi .ne (Scalar.extui (Scalar.xori (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32)) 1#1)) 0#32) = 1#1) (hc2 : ¬((Scalar.cmpi .ne (Scalar.extui (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32))) 0#32) = 1#1)) (k0_h4 : ¬(k0_cond4 (View.readAt (Elt Bits) (tbM0_0).view (Rect.unit (s := S20) (k0_off1 i) S1.size (k0_off1_inb i)).toLoadRect T0 (Shape.Idx.first (numel1_S1.symm ▸ Nat.one_pos))) (View.readAt (Elt Bits) (tbM0_1).view (Rect.unit (s := S20) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S1024x128.Idx → Elt Bits .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1024x128.Idx → Elt Bits .bf16)) K => by
    unfold owns
    rw [cc0_diff_prompt_eq_skeleton]; unfold cc0_diff_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

set_option backward.proofsInPublic true in
set_option maxHeartbeats 8000000 in
/-- PATH E (points 4, 10, … 638: 96 of 640): what the body leaves — per stored output its pieces (last first), per scratch its
    contents — WITH the proof that, on whole staging memrefs, from the inputs at their blocks, the tables, the outputs
    (5: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_E (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Bits .i32)) (T1 : (S20.Idx → Elt Bits .i32))
     (x0 : (S4x64.Idx → Elt Bits .f32)) (x1 : (S128x1.Idx → Elt Bits .f32)) (x2 : (S1024x128.Idx → Elt Bits .bf16)) (x3 : (S512x128.Idx → Elt Bits .bf16)) (x4 : (S128x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) 0#32)) 0#32) = 1#1)) (hc1 : ¬((Scalar.cmpi .ne (Scalar.extui (Scalar.xori (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32)) 1#1)) 0#32) = 1#1)) (hc2 : (Scalar.cmpi .ne (Scalar.extui (Scalar.cmpi .sgt (Scalar.subi (Scalar.addi (Scalar.muli (View.readAt (Elt Bits) (tbM0_1).view (Rect.unit (s := S20) (k0_off1 i) S1.size (k0_off1_inb i)).toLoadRect T1 (Shape.Idx.first (numel1_S1.symm ▸ Nat.one_pos))) 512#32) 512#32) 1#32) (Scalar.muli (View.readAt (Elt Bits) (tbM0_0).view (Rect.unit (s := S20) (k0_off1 i) S1.size (k0_off1_inb i)).toLoadRect T0 (Shape.Idx.first (numel1_S1.symm ▸ Nat.one_pos))) 1024#32))) 0#32) = 1#1) (k0_h4 : ¬(k0_cond4 (View.readAt (Elt Bits) (tbM0_0).view (Rect.unit (s := S20) (k0_off1 i) S1.size (k0_off1_inb i)).toLoadRect T0 (Shape.Idx.first (numel1_S1.symm ▸ Nat.one_pos))) (View.readAt (Elt Bits) (tbM0_1).view (Rect.unit (s := S20) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y5 : (S1024x128.Idx → Elt Bits .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ owns (c : Thread nD τ) arg10 fullShare y5
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ owns (c : Thread nD τ) arg10 fullShare y5
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_diff_prompt i tbM0_0 (Memref.isWhole_whole _) tbM0_1 (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y5 : (S1024x128.Idx → Elt Bits .bf16)) K => by
    unfold owns
    rw [cc0_diff_prompt_eq_skeleton]; unfold cc0_diff_prompt_skel
    iintro ⟨H0, H1, H2, H3, H4, HT0, HT1, ⟨%f5, %hf5, HO5⟩, HS0, HS1, HS2, HS3, Hk⟩
    obtain rfl := harg10.eq_unread hf5
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]
    · iexists _; isplitr; · ipureintro; exact harg10.read_unread _
      iexact HO5
    isplitl [HS0]; · iexact HS0
    isplitl [HS1]; · iexact HS1
    isplitl [HS2]; · iexact HS2
    iexact HS3⟩

end Cert.Kernel.Attn

end
-- ==== Proof.AttnBits.Ok0.lean ====
/- Every block of every window lies inside its array at the schedule of the two tables. -/
module

public import proofs.«01_k».proof.Proof.AttnBits.Pins

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

theorem ok_pfN_0_0_inb : ∀ i : grid0.Coords, ∀ a, (cc0_transform_2 k0_off1_inb numel1_S1 (pfN (⟨0, by omega⟩ : Fin 1)) i a + 1) * S1024x128.size a ≤ S16384x1024.size a := by decide +kernel
theorem ok_pfN_0_0 : (∀ i : grid0.Coords, ∃ h : (∀ a, (cc0_transform_2 k0_off1_inb numel1_S1 (pfN (⟨0, by omega⟩ : Fin 1)) i a + 1) * S1024x128.size a ≤ S16384x1024.size a), EltTy.bits .bf16 = 32 ∨ (Rect.block (s := S16384x1024) S1024x128.size (cc0_transform_2 k0_off1_inb numel1_S1 (pfN (⟨0, by omega⟩ : Fin 1)) i) h).WholeWords (EltTy.packing .bf16)) := fun i => ⟨ok_pfN_0_0_inb i, .inr (Affine.block_words_dvd (s := S16384x1024) (p := EltTy.packing .bf16) (by decide) (by decide))⟩
theorem ok_pfN_0_1_inb : ∀ i : grid0.Coords, ∀ a, (cc0_transform_3 k0_off1_inb numel1_S1 (pfN (⟨0, by omega⟩ : Fin 1)) i a + 1) * S512x128.size a ≤ S16384x1024.size a := by decide +kernel
theorem ok_pfN_0_1 : (∀ i : grid0.Coords, ∃ h : (∀ a, (cc0_transform_3 k0_off1_inb numel1_S1 (pfN (⟨0, by omega⟩ : Fin 1)) i a + 1) * S512x128.size a ≤ S16384x1024.size a), EltTy.bits .bf16 = 32 ∨ (Rect.block (s := S16384x1024) S512x128.size (cc0_transform_3 k0_off1_inb numel1_S1 (pfN (⟨0, by omega⟩ : Fin 1)) i) h).WholeWords (EltTy.packing .bf16)) := fun i => ⟨ok_pfN_0_1_inb i, .inr (Affine.block_words_dvd (s := S16384x1024) (p := EltTy.packing .bf16) (by decide) (by decide))⟩
theorem ok_pfN_0_2_inb : ∀ i : grid0.Coords, ∀ a, (cc0_transform_4 k0_off1_inb numel1_S1 (pfN (⟨0, by omega⟩ : Fin 1)) i a + 1) * S128x512.size a ≤ S4096x4096.size a := by decide +kernel
theorem ok_pfN_0_2 : (∀ i : grid0.Coords, ∃ h : (∀ a, (cc0_transform_4 k0_off1_inb numel1_S1 (pfN (⟨0, by omega⟩ : Fin 1)) i a + 1) * S128x512.size a ≤ S4096x4096.size a), EltTy.bits .bf16 = 32 ∨ (Rect.block (s := S4096x4096) S128x512.size (cc0_transform_4 k0_off1_inb numel1_S1 (pfN (⟨0, by omega⟩ : Fin 1)) i) h).WholeWords (EltTy.packing .bf16)) := fun i => ⟨ok_pfN_0_2_inb i, .inr (Affine.block_words_dvd (s := S4096x4096) (p := EltTy.packing .bf16) (by decide) (by decide))⟩
theorem ok_pfN_0_3_inb : ∀ i : grid0.Coords, ∀ a, (cc0_transform_5 k0_off1_inb numel1_S1 (pfN (⟨0, by omega⟩ : Fin 1)) i a + 1) * S1024x128.size a ≤ S16384x1024.size a := by decide +kernel
theorem ok_pfN_0_3 : (∀ i : grid0.Coords, ∃ h : (∀ a, (cc0_transform_5 k0_off1_inb numel1_S1 (pfN (⟨0, by omega⟩ : Fin 1)) i a + 1) * S1024x128.size a ≤ S16384x1024.size a), EltTy.bits .bf16 = 32 ∨ (Rect.block (s := S16384x1024) S1024x128.size (cc0_transform_5 k0_off1_inb numel1_S1 (pfN (⟨0, by omega⟩ : Fin 1)) i) h).WholeWords (EltTy.packing .bf16)) := fun i => ⟨ok_pfN_0_3_inb i, .inr (Affine.block_words_dvd (s := S16384x1024) (p := EltTy.packing .bf16) (by decide) (by decide))⟩
theorem ok_pfN_0 : ok0 (F := Bits) (pfN (⟨0, by omega⟩ : Fin 1)) := ⟨ok_pfN_0_0, ok_pfN_0_1, ok_pfN_0_2, ok_pfN_0_3⟩

end Cert.Kernel.Attn

end
-- ==== Proof.AttnBits.Cfg.lean ====
/- The pipeline at the two tables: a point's coordinates, words, staging buffers and blocks, and what the host operations before it leave. -/
module

public import proofs.«01_k».proof.Proof.AttnBits.Ok0

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)

/-- The side condition holds of the pinned tables at EVERY member (every block inside its array), decided and matched here. -/
theorem ok_pfN : ∀ ch : Fin 1, ok0 (F := Bits) (pfN ch) := fun ch => match ch with
  | ⟨0, _⟩ => ok_pfN_0
  | ⟨_ + 1, h⟩ => absurd h (by omega)

/-- The admissible contents, the pipeline at them (`cfgA ch`: member `ch`'s grid, 640 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## @main up to the region: the host operations before it (the frame kit's road, Lib/Pipeline/Frame.lean) -/

/-- Core `c`'s TensorCore buffers when the region is entered: after the host operations `hostOps0` (proofs.«01_k».proof.Proof.Gen.Kernel.Launch). -/
abbrev V (c : Dev nD) (b : Ref sig .tc) : Buf (Elt Bits) ((c : Thread nD τ).loc b) := StableHlo.after (hostOps0 (F := Bits)) (fun b => m (c, b)) b

theorem hostOps0_fresh : (hostOps0 (F := Bits) : List (HloOp τ sig (Elt Bits))).Forall fun op => op.fresh = ∅ := by
  simp only [List.Forall]; repeat' constructor

/-- The reference each host operation before the region writes, in order. -/
abbrev hostOps0_W : List (Ref sig .tc) := [main_c, main_c_0, main_v0, main_cst, main_v1, main_cst_1, main_v2, main_v3, main_v4, main_v5, main_v6, main_v7, main_v8, main_v9, main_v10, main_v11, main_v12]
theorem hostOps0_writes : ((hostOps0 (F := Bits)) : List (HloOp τ sig (Elt Bits))).Forall fun op => op.writes ⊆ (hostOps0_W.map (Proc.devRef (τ := τ) .tc)).toFinset :=
  StableHlo.forall_writes_sub_of_map rfl

set_option maxHeartbeats 800000 in
/-- @main up to the region: the host operations then the region (`StableHlo.wp_seq` over the unscoped buffers, off
    `main_chain`), reaching it with the buffers at `V`. -/
theorem hmain : Pipeline.HMainP (Ix := Unit) (Name := ℕ) (U := UR sig nD τ) (Lvl := ℕ) (pcfgs (F := Bits)) 0 defs₀ Variants.none m (main (F := Bits)) (V m) :=
  Pipeline.hmainP_prefix (pcfgs (F := Bits)) 0 defs₀ Variants.none m main (hostOps0 (F := Bits)) hostOps0_sub hostOps0_fresh main_chain

/-! ### Each argument as the region finds it: as launched (no host operation before the region writes one) -/
theorem V_main_arg0 (c : Dev nD) : V m c main_arg0 = m ((c : Thread nD τ).loc main_arg0) :=
  StableHlo.after_of_writes_sub (hostOps0 (F := Bits)) _ hostOps0_writes (by decide)
theorem V_main_arg1 (c : Dev nD) : V m c main_arg1 = m ((c : Thread nD τ).loc main_arg1) :=
  StableHlo.after_of_writes_sub (hostOps0 (F := Bits)) _ hostOps0_writes (by decide)
theorem V_main_arg2 (c : Dev nD) : V m c main_arg2 = m ((c : Thread nD τ).loc main_arg2) :=
  StableHlo.after_of_writes_sub (hostOps0 (F := Bits)) _ hostOps0_writes (by decide)
theorem V_main_arg3 (c : Dev nD) : V m c main_arg3 = m ((c : Thread nD τ).loc main_arg3) :=
  StableHlo.after_of_writes_sub (hostOps0 (F := Bits)) _ hostOps0_writes (by decide)
theorem V_main_arg4 (c : Dev nD) : V m c main_arg4 = m ((c : Thread nD τ).loc main_arg4) :=
  StableHlo.after_of_writes_sub (hostOps0 (F := Bits)) _ hostOps0_writes (by decide)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S4x64 .f32 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S128x1 .f32 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1024x128 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S512x128 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S128x512 .bf16 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S1024x128 .bf16 := spec0_5.stage ((cfgA ch).slots t (5 : Fin 6))
abbrev hs0_5 (t : Fin (cfgA ch).N) : (ms0_5 ch t).IsWhole := hstage0_5 (((cfgA ch).slots t (5 : Fin 6)).cast nbuf0_5)

/-! ## The windows' blocks -/

/-- Window `w`'s block at point `t`, read off its array as the region finds it (`V`). -/
def iblk (ρ : Dev nD → PrngReg) (c : Dev nD) (w : Fin (cfgA ch).W) (t : Fin (cfgA ch).N) : (((cfgA ch).win w).xblock (crd ch t)).Idx → Elt Bits ((cfgA ch).win w).elt :=
  (((cfgA ch).win w).blk t).view.read (Elt Bits) (V m c (Pipeline.arrRef spec0 w))

/-! ## The control's decisions at a point, at the pinned words (what tells the paths apart) -/

abbrev P0_0 (t : Fin (cfgA ch).N) : Prop := (Scalar.cmpi .ne (Scalar.extui (Scalar.cmpi .eq (View.readAt (Elt Bits) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.xori (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1
abbrev P0_2 (t : Fin (cfgA ch).N) : Prop := k0_cond4 (View.readAt (Elt Bits) (tbM0_0).view (Rect.unit (s := S20) (k0_off1 (crd ch t)) S1.size (k0_off1_inb (crd ch t))).toLoadRect (pinT_0 ch) (Shape.Idx.first (numel1_S1.symm ▸ Nat.one_pos))) (View.readAt (Elt Bits) (tbM0_1).view (Rect.unit (s := S20) (k0_off1 (crd ch t)) S1.size (k0_off1_inb (crd ch t))).toLoadRect (pinT_1 ch) (Shape.Idx.first (numel1_S1.symm ▸ Nat.one_pos))) = 1#1

/-- Whether scratch 0 (`cc0_scratch0`) holds nothing a point has determined, before position `n`: until a path that stores it
    whole first (A, C) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else (if P0_2 ch ⟨n, h⟩ then sfresh0_0 n else sfresh0_0 n))) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, C) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else (if P0_2 ch ⟨n, h⟩ then sfresh0_1 n else sfresh0_1 n))) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, C) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else (if P0_2 ch ⟨n, h⟩ then sfresh0_2 n else sfresh0_2 n))) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A, C) has run. -/
def sfresh0_3 : ℕ → Bool
  | 0 => true
  | n + 1 => if h : n < (cfgA ch).N then (if P0_0 ch ⟨n, h⟩ then (if P0_1 ch ⟨n, h⟩ then false else false) else (if P0_1 ch ⟨n, h⟩ then sfresh0_3 n else (if P0_2 ch ⟨n, h⟩ then sfresh0_3 n else sfresh0_3 n))) else true

/-- Its CLOSED FORM: fresh before position `n` iff no point below `n` covers it — `n` at most member `ch`'s first covering
    point (read off the walk; the recursion's step is decided against it point by point, the recursion never run). -/
def sfirst0_3 (ch : Fin 1) : ℕ := 0
def sfrTab0_3 : ℕ → Bool := fun n => decide (n ≤ sfirst0_3 ch)

set_option backward.proofsInPublic true in
/-- Whether output 5 holds junk BEFORE each position `1 ‥ N` of member `ch`'s grid — nothing stored into it since
    its last write-back —: the classifier's table (written back at the point before, or idle there and junk
    before it) as a bitmask, bit `n` for position `n + 1`, which `frTab0_5_step` checks against the pipeline's
    own recursion point by point (a bit test is one kernel step; a list walk or the recursion, hundreds). -/
def frMask0_5 : Fin 1 → ℕ
  | ⟨0, _⟩ => 0xffffffffffffffffffffffffffffffffffffffffffffffffffffffffffffffffffffffffffffffffffffffffffffffffffffffffffffffffffffffffffffffffffffffffffffffffffffffffffffffff
  | ⟨_ + 1, h⟩ => absurd h (by omega)
/-- `(cfgA ch).fresh 5` TABULATED (TableIdle.lean `Cfg.fresh_tab`): true before the first point, then the table. -/
def frTab0_5 : ℕ → Bool
  | 0 => true
  | n + 1 => (frMask0_5 ch).testBit n

end Cert.Kernel.Attn

end
-- ==== Proof.AttnBits.Facts.lean ====
/- What is decided at each of the 640 points, as one proposition. -/
module

public import proofs.«01_k».proof.Proof.AttnBits.Cfg

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)
variable (m : (ℓ : Loc nD τ sig) → Buf (Elt Bits) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, frTab0_5_step, hyps0_A, sched0_A, hyps0_B, sched0_B, hyps0_C, sched0_C, hyps0_D, sched0_D, hyps0_E, sched0_E
  (sfrTab0_0 ch (t.val + 1) = (if P0_0 ch t then (if P0_1 ch t then false else false) else (if P0_1 ch t then sfrTab0_0 ch t.val else (if P0_2 ch t then sfrTab0_0 ch t.val else sfrTab0_0 ch t.val))))
  ∧ (sfrTab0_1 ch (t.val + 1) = (if P0_0 ch t then (if P0_1 ch t then false else false) else (if P0_1 ch t then sfrTab0_1 ch t.val else (if P0_2 ch t then sfrTab0_1 ch t.val else sfrTab0_1 ch t.val))))
  ∧ (sfrTab0_2 ch (t.val + 1) = (if P0_0 ch t then (if P0_1 ch t then false else false) else (if P0_1 ch t then sfrTab0_2 ch t.val else (if P0_2 ch t then sfrTab0_2 ch t.val else sfrTab0_2 ch t.val))))
  ∧ (sfrTab0_3 ch (t.val + 1) = (if P0_0 ch t then (if P0_1 ch t then false else false) else (if P0_1 ch t then sfrTab0_3 ch t.val else (if P0_2 ch t then sfrTab0_3 ch t.val else sfrTab0_3 ch t.val))))
  ∧ (frTab0_5 ch (t.val + 1) = (((cfgA ch).win (5 : Fin 6)).flush t || ((cfgA ch).idle (5 : Fin 6) ((cfgA ch).grid.coords t) && frTab0_5 ch t.val)))
  ∧ (P0_0 ch t → ¬P0_1 ch t → ((Scalar.cmpi .ne (Scalar.extui (Scalar.cmpi .eq (View.readAt (Elt Bits) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.xori (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((¬(k0_cond4 (View.readAt (Elt Bits) (tbM0_0).view (Rect.unit (s := S20) (k0_off1 (crd ch t)) S1.size (k0_off1_inb (crd ch t))).toLoadRect (pinT_0 ch) (Shape.Idx.first (numel1_S1.symm ▸ Nat.one_pos))) (View.readAt (Elt Bits) (tbM0_1).view (Rect.unit (s := S20) (k0_off1 (crd ch t)) S1.size (k0_off1_inb (crd ch t))).toLoadRect (pinT_1 ch) (Shape.Idx.first (numel1_S1.symm ▸ Nat.one_pos))) = 1#1)) ∧ (True)))))
  ∧ (P0_0 ch t → ¬P0_1 ch t → (cfgA ch).idle (5 : Fin 6) ((cfgA ch).grid.coords t) = true ∧ ((cfgA ch).win (5 : Fin 6)).flush t = false ∧ frTab0_5 ch t.val = true ∧ sfrTab0_0 ch (t.val + 1) = false ∧ sfrTab0_1 ch (t.val + 1) = false ∧ sfrTab0_2 ch (t.val + 1) = false ∧ sfrTab0_3 ch (t.val + 1) = false)
  ∧ (¬P0_0 ch t → ¬P0_1 ch t → P0_2 ch t → (¬((Scalar.cmpi .ne (Scalar.extui (Scalar.cmpi .eq (View.readAt (Elt Bits) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.xori (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((k0_cond4 (View.readAt (Elt Bits) (tbM0_0).view (Rect.unit (s := S20) (k0_off1 (crd ch t)) S1.size (k0_off1_inb (crd ch t))).toLoadRect (pinT_0 ch) (Shape.Idx.first (numel1_S1.symm ▸ Nat.one_pos))) (View.readAt (Elt Bits) (tbM0_1).view (Rect.unit (s := S20) (k0_off1 (crd ch t)) S1.size (k0_off1_inb (crd ch t))).toLoadRect (pinT_1 ch) (Shape.Idx.first (numel1_S1.symm ▸ Nat.one_pos))) = 1#1) ∧ (True)))))
  ∧ (¬P0_0 ch t → ¬P0_1 ch t → P0_2 ch t → (cfgA ch).idle (5 : Fin 6) ((cfgA ch).grid.coords t) = false ∧ ((cfgA ch).win (5 : Fin 6)).flush t = true ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (P0_0 ch t → P0_1 ch t → ((Scalar.cmpi .ne (Scalar.extui (Scalar.cmpi .eq (View.readAt (Elt Bits) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.xori (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1) ∧ ((¬((Scalar.cmpi .ne (Scalar.extui (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1)) ∧ ((¬(k0_cond4 (View.readAt (Elt Bits) (tbM0_0).view (Rect.unit (s := S20) (k0_off1 (crd ch t)) S1.size (k0_off1_inb (crd ch t))).toLoadRect (pinT_0 ch) (Shape.Idx.first (numel1_S1.symm ▸ Nat.one_pos))) (View.readAt (Elt Bits) (tbM0_1).view (Rect.unit (s := S20) (k0_off1 (crd ch t)) S1.size (k0_off1_inb (crd ch t))).toLoadRect (pinT_1 ch) (Shape.Idx.first (numel1_S1.symm ▸ Nat.one_pos))) = 1#1)) ∧ (True)))))
  ∧ (P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → P0_1 ch t → (¬((Scalar.cmpi .ne (Scalar.extui (Scalar.cmpi .eq (View.readAt (Elt Bits) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.xori (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1) ∧ ((¬((Scalar.cmpi .ne (Scalar.extui (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1)) ∧ ((¬(k0_cond4 (View.readAt (Elt Bits) (tbM0_0).view (Rect.unit (s := S20) (k0_off1 (crd ch t)) S1.size (k0_off1_inb (crd ch t))).toLoadRect (pinT_0 ch) (Shape.Idx.first (numel1_S1.symm ▸ Nat.one_pos))) (View.readAt (Elt Bits) (tbM0_1).view (Rect.unit (s := S20) (k0_off1 (crd ch t)) S1.size (k0_off1_inb (crd ch t))).toLoadRect (pinT_1 ch) (Shape.Idx.first (numel1_S1.symm ▸ Nat.one_pos))) = 1#1)) ∧ (True)))))
  ∧ (¬P0_0 ch t → P0_1 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → ¬P0_2 ch t → (¬((Scalar.cmpi .ne (Scalar.extui (Scalar.cmpi .eq (View.readAt (Elt Bits) (tbM0_1).view (Rect.unit (s := S20) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.xori (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32)) 1#1)) 0#32) = 1#1)) ∧ (((Scalar.cmpi .ne (Scalar.extui (Scalar.cmpi .sgt (Scalar.subi (Scalar.addi (Scalar.muli (View.readAt (Elt Bits) (tbM0_1).view (Rect.unit (s := S20) (k0_off1 (crd ch t)) S1.size (k0_off1_inb (crd ch t))).toLoadRect (pinT_1 ch) (Shape.Idx.first (numel1_S1.symm ▸ Nat.one_pos))) 512#32) 512#32) 1#32) (Scalar.muli (View.readAt (Elt Bits) (tbM0_0).view (Rect.unit (s := S20) (k0_off1 (crd ch t)) S1.size (k0_off1_inb (crd ch t))).toLoadRect (pinT_0 ch) (Shape.Idx.first (numel1_S1.symm ▸ Nat.one_pos))) 1024#32))) 0#32) = 1#1) ∧ ((¬(k0_cond4 (View.readAt (Elt Bits) (tbM0_0).view (Rect.unit (s := S20) (k0_off1 (crd ch t)) S1.size (k0_off1_inb (crd ch t))).toLoadRect (pinT_0 ch) (Shape.Idx.first (numel1_S1.symm ▸ Nat.one_pos))) (View.readAt (Elt Bits) (tbM0_1).view (Rect.unit (s := S20) (k0_off1 (crd ch t)) S1.size (k0_off1_inb (crd ch t))).toLoadRect (pinT_1 ch) (Shape.Idx.first (numel1_S1.symm ▸ Nat.one_pos))) = 1#1)) ∧ (True)))))
  ∧ (¬P0_0 ch t → ¬P0_1 ch t → ¬P0_2 ch t → (cfgA ch).idle (5 : Fin 6) ((cfgA ch).grid.coords t) = true ∧ ((cfgA ch).win (5 : Fin 6)).flush t = false ∧ frTab0_5 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))))

end Cert.Kernel.Attn

end
-- ==== Proof.AttnBits.Post.lean ====
/- The launch's end state and the frame. -/
module

public import proofs.«01_k».proof.Proof.AttnBits.Run
public import Idealize.ShloMosaic.Lib.StableHlo.RunRead
public import Idealize.ShloMosaic.Lib.Claim
public import Idealize.ShloMosaic.Lib.Pipeline.Quiescent

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Fin 1)
variable (m : (ℓ : Loc nD τ sig) → Buf (Elt Bits) ℓ) (ρ : Dev nD → PrngReg)

/-- The end state: every window's array at what the library computes, every table at what the pipeline ran at, and every other
    buffer of the core as the region found it. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ (∀ j, r.2.mem ((c : Thread nD τ).loc (pre0.ref j)) = (adm ch).1 j)
    ∧ ∀ b ∈ Pipeline.restRefsP sig pre0 spec0, r.2.mem ((c : Thread nD τ).loc b) = V m c b

theorem lit0_eq : ∀ i : Fin 20, lit0 i = (([0#32, 0#32, 1#32, 1#32, 1#32, 1#32, 2#32, 2#32, 2#32, 2#32, 2#32, 2#32, 3#32, 3#32, 3#32, 3#32, 3#32, 3#32, 3#32, 3#32] : List (BitVec 32)).getD i.val 0#32) := by
  decide

theorem lit1_eq : ∀ i : Fin 20, lit1 i = (([0#32, 1#32, 0#32, 1#32, 2#32, 3#32, 0#32, 1#32, 2#32, 3#32, 4#32, 5#32, 0#32, 1#32, 2#32, 3#32, 4#32, 5#32, 6#32, 7#32] : List (BitVec 32)).getD i.val 0#32) := by
  decide

theorem rowMajor_S20 (x : S20.Idx) : (S20.rowMajor x).val = (x 0).val := by
  rw [Shape.rowMajor_val_one]

/-- The first table as the region finds it: what the first host operation writes. -/
theorem V_table0 (c : Dev nD) : V m c main_c = pinT_0 ch := by
  have h : V m c main_c = fun i => lit0 (S20.rowMajor i) := by
    unfold V
    after_reads_simp
    rfl
  rw [h]; funext x
  refine (lit0_eq (S20.rowMajor x)).trans ?_
  unfold pinT_0
  rw [rowMajor_S20]

/-- The second table as the region finds it. -/
theorem V_table1 (c : Dev nD) : V m c main_c_0 = pinT_1 ch := by
  have h : V m c main_c_0 = fun i => lit1 (S20.rowMajor i) := by
    unfold V
    after_reads_simp
    rfl
  rw [h]; funext x
  refine (lit1_eq (S20.rowMajor x)).trans ?_
  unfold pinT_1
  rw [rowMajor_S20]

theorem V_pre (c : Dev nD) (j : Fin 2) : V m c (pre0.ref j) = (adm ch).1 j := by
  fin_cases j
  · exact V_table0 ch m c
  · exact V_table1 ch m c

set_option backward.isDefEq.respectTransparency.types false in
set_option maxHeartbeats 4000000 in
/-- At the compiled mesh, from any memory with zero counters: every weakly fair execution of @main terminates, in an end state
    `QC` and with every semaphore counter at zero. -/
theorem run_main : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := V m)
    (hmain := hmain m)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m)
    (X := fun _ => iprop(emp)) (Y := fun _ => iprop(emp))
    (Z := fun c => Pipeline.unscopedRestP (Ix := Unit) (Name := ℕ) (U := UR sig nD τ) (Lvl := ℕ) pre0 spec0 c (V m c))
    (hX := fun c => by
      iintro HU
      isplitr; · iempintro
      iexact HU)
    (hin := phi0_intro ch m ρ)
    (hout := phiN_exit ch m ρ)
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun _ h hz => ⟨fun c => ⟨(h c).1, (h c).2.1, (h c).2.2⟩, hz⟩)

/-- What a run leaves in the arguments: what it found there. -/
theorem args_kept (r : PUnit × MemSt nD τ sig (Elt Bits)) (h : QC ch m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2.2 main_arg0 (by decide)).trans (V_main_arg0 m c), ((h c).2.2 main_arg1 (by decide)).trans (V_main_arg1 m c),
    ((h c).2.2 main_arg2 (by decide)).trans (V_main_arg2 m c),
    ((h c).1 (0 : Fin 6)).trans (((dats ch m ρ 0 c).arrAt_in (0 : Fin 6) rfl _).trans (V_main_arg3 m c)),
    ((h c).2.2 main_arg4 (by decide)).trans (V_main_arg4 m c)⟩

/-- The frame: every weakly fair execution terminates, nothing faults, every argument array ends unchanged and every semaphore
    counter reads zero. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept 0 m ρ r h.1 c, h.2⟩) (run_main 0 m ρ)

end Cert.Kernel.Attn

end
-- ==== Proof.Attn.Step.lean ====
module
public import proofs.«01_k».proof.Proof.AttnIdeal.Runs
public import Idealize.ShloMosaic.Lib.Pipeline.ValueKit
public import Idealize.ShloMosaic.Lib.Pipeline.ReadBack
public import Idealize.ShloMosaic.Lib.Pointwise
@[expose] public section
set_option maxRecDepth 16384

/-! One step of the online softmax in one column, in the scores of a block of 512 keys. -/

noncomputable section
namespace Cert.Attention
open Idealize.ShloMosaic

/-- The greatest of a block's scores. -/
def mx (s : Fin 512 → EReal) : EReal := Finset.fold max (Ideal.ofBits FTy.f32 4286578688#32) s Finset.univ

/-- The running maximum after the block. -/
def nm (m : EReal) (s : Fin 512 → EReal) : EReal := max m (mx s)

/-- The running sum of the weights after the block. -/
def nl (m l : EReal) (s : Fin 512 → EReal) : EReal :=
  Ideal.exp2 (m - nm m s) * l + ∑ κ, Ideal.exp2 (s κ - nm m s)

/-- The running weighted sum of one row of values after the block. -/
def na (m a : EReal) (v s : Fin 512 → EReal) : EReal :=
  Ideal.exp2 (m - nm m s) * a + ∑ κ, v κ * Ideal.exp2 (s κ - nm m s)

end Cert.Attention

namespace Cert.KernelIdeal.Attn
open Cert.KernelIdeal Cert.KernelIdeal.Gen Idealize.ShloMosaic Idealize.ShloMosaic.TcCoe Idealize.SL.Sem

/-- The score of key `κ` of a block in column `j`. -/
def sc (K : FVec Ideal S512x128 .bf16) (Q : FVec Ideal S2048x128 .bf16) (κ : Fin 512) (j : Fin 2048) : EReal :=
  ∑ l : Fin 128, K (ix2 κ l) * Q (ix2 j l)

/-- The same with the keys after the query's position left out. -/
def smk (qi ki : ℕ) (K : FVec Ideal S512x128 .bf16) (Q : FVec Ideal S2048x128 .bf16) (κ : Fin 512) (j : Fin 2048) : EReal :=
  if ki * 512 + κ.val ≤ qi * 1024 + j.val % 1024 then sc K Q κ j else ⊥

section
variable {sh : Shape} {e : EltTy}

/-- A covering list of pieces decides the contents; what was stored before it does not show. -/
theorem canon_of_prefix (L : List (View.Piece (Elt Ideal) sh e)) (p : View.Piece (Elt Ideal) sh e) (y : sh.Idx)
    (hc : ∃ q ∈ L, y ∈ q.1.set) : View.canon (L ++ [p]) y = View.canon L y := by
  induction L with
  | nil => obtain ⟨q, hq, _⟩ := hc; exact absurd hq List.not_mem_nil
  | cons q L ih =>
    rw [List.cons_append]
    by_cases hm : y ∈ q.1.set
    · obtain ⟨x, rfl⟩ := q.1.exists_idx_of_mem hm
      rw [show q.1.idx x = q.1.emb x from rfl, View.canon_cons_emb, View.canon_cons_emb]
    · rw [View.canon_cons_of_not_mem _ _ hm, View.canon_cons_of_not_mem _ _ hm]
      refine ih ?_
      obtain ⟨q', hq, hyq⟩ := hc
      rcases List.mem_cons.mp hq with rfl | hq'
      · exact absurd hyq hm
      · exact ⟨q', hq', hyq⟩

/-- Four pieces of one size which tile the buffer, stored after a fill. -/
theorem canon_four (p0 p1 p2 p3 p4 : View.Piece (Elt Ideal) sh e) (z : Fin sh.rank → ℕ)
    (h : View.Piece.tiled [p0, p1, p2, p3] z = true) (y : sh.Idx) :
    View.canon [p0, p1, p2, p3, p4] y = View.canon [p0, p1, p2, p3] y :=
  canon_of_prefix [p0, p1, p2, p3] p4 y (View.cover_of_tiled _ z h y)

end

/-- A table's word at a grid point's step. -/
def wrd (T : S20.Idx → Elt Ideal .i32) (i : grid0.Coords) : Elt Ideal .i32 :=
  T (ix1 ⟨k0_off1 i 0, k0_off1_inb i 0⟩)

/-- The kernel's comparison of positions, in the numbers of the query block and the key block. -/
theorem cmp_pos {qi ki : ℕ} (hq : qi < 4) (hk : ki < 8) (x b : Fin 512) (off : ℕ) (ho : off ≤ 512) :
    IntOp.cmpi CmpIPredicate.sle
      (IntOp.addi (Scalar.muli (BitVec.ofNat 32 ki) 512#32) (BitVec.ofNat 32 x.val))
      (IntOp.addi (Scalar.addi (Scalar.muli (BitVec.ofNat 32 qi) 1024#32) (BitVec.ofNat 32 off)) (BitVec.ofNat 32 b.val))
    = if ki * 512 + x.val ≤ qi * 1024 + (off + b.val) then 1#1 else 0#1 := by
  have hx := x.isLt
  have hb := b.isLt
  have e1 : IntOp.addi (Scalar.muli (BitVec.ofNat 32 ki) 512#32) (BitVec.ofNat 32 x.val) = BitVec.ofNat 32 (ki * 512 + x.val) := by
    change BitVec.ofNat 32 ki * BitVec.ofNat 32 512 + BitVec.ofNat 32 x.val = _
    simp only [← BitVec.ofNat_mul, ← BitVec.ofNat_add]
  have e2 : IntOp.addi (Scalar.addi (Scalar.muli (BitVec.ofNat 32 qi) 1024#32) (BitVec.ofNat 32 off)) (BitVec.ofNat 32 b.val) = BitVec.ofNat 32 (qi * 1024 + (off + b.val)) := by
    change BitVec.ofNat 32 qi * BitVec.ofNat 32 1024 + BitVec.ofNat 32 off + BitVec.ofNat 32 b.val = _
    simp only [← BitVec.ofNat_mul, ← BitVec.ofNat_add, Nat.add_assoc]
  have ti : ∀ n : ℕ, n < 2 ^ 31 → (BitVec.ofNat 32 n).toInt = (n : ℤ) := by
    intro n hn
    rw [BitVec.toInt_eq_toNat_cond, BitVec.toNat_ofNat, Nat.mod_eq_of_lt (by omega), if_pos (by omega)]
  rw [e1, e2]
  change BitVec.ofBool (BitVec.sle _ _) = _
  rw [BitVec.sle_eq_decide, ti _ (by omega), ti _ (by omega)]
  by_cases h : ki * 512 + x.val ≤ qi * 1024 + (off + b.val)
  · rw [if_pos h, decide_eq_true (by exact_mod_cast h)]; rfl
  · rw [if_neg h, decide_eq_false (by intro h'; exact h (by exact_mod_cast h'))]; rfl

/-- The masked scores as the kernel's selection writes them. -/
theorem smk_eq {qi ki : ℕ} (hq : qi < 4) (hk : ki < 8) {w0 w1 : Elt Ideal .i32} (hw0 : w0 = BitVec.ofNat 32 qi)
    (hw1 : w1 = BitVec.ofNat 32 ki) (K : FVec Ideal S512x128 .bf16) (Q : FVec Ideal S2048x128 .bf16)
    (off : ℕ) (ho : off ≤ 512) (j : Fin 2048) (b : Fin 512) (hj : j.val % 1024 = off + b.val) :
    (fun x => smk qi ki K Q x j) = fun x => Scalar.select
      (IntOp.cmpi CmpIPredicate.sle
        (IntOp.addi (Scalar.muli w1 512#32) (BitVec.ofNat 32 x.val))
        (IntOp.addi (Scalar.addi (Scalar.muli w0 1024#32) (BitVec.ofNat 32 off)) (BitVec.ofNat 32 b.val)))
      (∑ l, K (ix2 x l) * Q (ix2 j l)) (Named.named (F := Ideal) (φ := .f32) κ "mask" 4048155338#32) := by
  subst hw0 hw1
  funext x
  rw [cmp_pos hq hk x b off ho, smk, hj]
  split
  · rfl
  · rfl

end Cert.KernelIdeal.Attn
-- ==== Proof.Attn.Math.lean ====
module
public import proofs.«01_k».proof.Proof.Attn.Step

@[expose] public section

/-! The online softmax over scores that may be infinite and values that are numbers: what its running values are after a block of keys, and
the quotient at the end. -/

noncomputable section
namespace Cert.Attention
open Idealize.ShloMosaic

/-! ## Weights -/

/-- A key's weight in base 2, relative to a bound of the scores. -/
def wt (x M : EReal) : ℝ := (Ideal.exp2 (x - M)).toReal

/-- A key's weight in base `e`. -/
def ex (x M : EReal) : ℝ := (Ideal.exp (x - M)).toReal

theorem sub_top' (x : EReal) : x - ⊤ = ⊥ := by rw [sub_eq_add_neg, EReal.neg_top, EReal.add_bot]

theorem wt_bot (M : EReal) : wt ⊥ M = 0 := by
  unfold wt
  rw [EReal.bot_sub, Ideal.exp2_bot, EReal.toReal_zero]

theorem wt_top (x : EReal) : wt x ⊤ = 0 := by
  unfold wt
  rw [sub_top', Ideal.exp2_bot, EReal.toReal_zero]

theorem wt_coe (a b : ℝ) : wt (a : EReal) (b : EReal) = Real.rpow 2 (a - b) := by
  unfold wt
  rw [← EReal.coe_sub, Ideal.exp2_coe, EReal.toReal_coe]

/-- Below the bound a difference is not `⊤`. -/
theorem sub_ne_top {x M : EReal} (h : x ≤ M) : x - M ≠ ⊤ := by
  by_cases hM : M = ⊤
  · rw [hM, sub_top']; exact bot_ne_top
  by_cases hx : x = ⊥
  · rw [hx, EReal.bot_sub]; exact bot_ne_top
  have hx' : x ≠ ⊤ := fun hh => hM (top_le_iff.mp (hh ▸ h))
  have hM' : M ≠ ⊥ := fun hh => hx (le_bot_iff.mp (hh ▸ h))
  lift x to ℝ using ⟨hx', hx⟩
  lift M to ℝ using ⟨hM, hM'⟩
  rw [← EReal.coe_sub]
  exact EReal.coe_ne_top _

theorem exp2_wt {x M : EReal} (h : x ≤ M) : Ideal.exp2 (x - M) = ((wt x M : ℝ) : EReal) := by
  have hh := sub_ne_top h
  unfold wt
  generalize x - M = z at hh
  induction z using EReal.rec with
  | bot => rw [Ideal.exp2_bot, EReal.toReal_zero, EReal.coe_zero]
  | coe r => rw [Ideal.exp2_coe, EReal.toReal_coe]
  | top => exact absurd rfl hh

theorem exp_ex {x M : EReal} (h : x ≤ M) : Ideal.exp (x - M) = ((ex x M : ℝ) : EReal) := by
  have hh := sub_ne_top h
  unfold ex
  generalize x - M = z at hh
  induction z using EReal.rec with
  | bot => rw [Ideal.exp_bot, EReal.toReal_zero, EReal.coe_zero]
  | coe r => rw [Ideal.exp_coe, EReal.toReal_coe]
  | top => exact absurd rfl hh

theorem ex_nonneg (x M : EReal) : 0 ≤ ex x M := by
  unfold ex
  generalize x - M = z
  induction z using EReal.rec with
  | bot => rw [Ideal.exp_bot, EReal.toReal_zero]
  | coe r => rw [Ideal.exp_coe, EReal.toReal_coe]; exact (Real.exp_pos r).le
  | top => rw [Ideal.exp_top, EReal.toReal_top]

theorem ex_bot (M : EReal) : ex ⊥ M = 0 := by
  unfold ex
  rw [EReal.bot_sub, Ideal.exp_bot, EReal.toReal_zero]

/-- Passing to a greater bound. -/
theorem wt_mul {x M M' : EReal} (h : x ≤ M) (h' : M ≤ M') : wt M M' * wt x M = wt x M' := by
  by_cases hM' : M' = ⊤
  · rw [hM', wt_top, wt_top, zero_mul]
  by_cases hx : x = ⊥
  · rw [hx, wt_bot, wt_bot, mul_zero]
  have hM : M ≠ ⊥ := fun hh => hx (le_bot_iff.mp (hh ▸ h))
  have hMt : M ≠ ⊤ := fun hh => hM' (top_le_iff.mp (hh ▸ h'))
  have hxt : x ≠ ⊤ := fun hh => hMt (top_le_iff.mp (hh ▸ h))
  have hMb : M' ≠ ⊥ := fun hh => hM (le_bot_iff.mp (hh ▸ h'))
  lift x to ℝ using ⟨hxt, hx⟩
  lift M to ℝ using ⟨hMt, hM⟩
  lift M' to ℝ using ⟨hM', hMb⟩
  rw [wt_coe, wt_coe, wt_coe]
  refine (Real.rpow_add two_pos _ _).symm.trans ?_
  congr 1
  ring

/-- The factor between the bases. -/
def c2 : EReal := ((1 / Real.log 2 : ℝ) : EReal)

theorem c2_pos : (0 : ℝ) < 1 / Real.log 2 := one_div_pos.mpr (Real.log_pos (by norm_num))

theorem c2_nonneg : 0 ≤ c2 := EReal.coe_nonneg.mpr c2_pos.le

theorem rpow_log (x : ℝ) : Real.rpow 2 (x * (1 / Real.log 2)) = Real.exp x := by
  have h : Real.log 2 ≠ 0 := (Real.log_pos (by norm_num)).ne'
  change (2 : ℝ) ^ (x * (1 / Real.log 2)) = _
  rw [Real.rpow_def_of_pos two_pos, mul_one_div, mul_div_cancel₀ _ h]

theorem exp2_c2 (z : EReal) : Ideal.exp2 (z * c2) = Ideal.exp z := by
  unfold c2
  induction z using EReal.rec with
  | bot => rw [EReal.bot_mul_coe_of_pos c2_pos, Ideal.exp2_bot, Ideal.exp_bot]
  | coe r => rw [← EReal.coe_mul, Ideal.exp2_coe, Ideal.exp_coe, rpow_log]
  | top => rw [EReal.top_mul_coe_of_pos c2_pos, Ideal.exp2_top, Ideal.exp_top]

theorem wt_scale (x y : EReal) : wt (x * c2) (y * c2) = ex x y := by
  unfold wt ex
  rw [← exp2_c2, sub_eq_add_neg x y, EReal.right_distrib_of_nonneg_of_ne_top c2_nonneg (EReal.coe_ne_top _), EReal.neg_mul, ← sub_eq_add_neg]

/-! ## A row -/

/-- A row's score at a key, `⊥` where the position does not see the key. -/
def tm (s : ℕ → EReal) (p κ : ℕ) : EReal := if κ ≤ p then s κ else ⊥

/-- The greatest of those before `n`. -/
def smax (s : ℕ → EReal) (p n : ℕ) : EReal := (Finset.range n).sup (tm s p)

theorem le_smax (s : ℕ → EReal) (p : ℕ) {n κ : ℕ} (h : κ < n) : tm s p κ ≤ smax s p n :=
  Finset.le_sup (f := tm s p) (Finset.mem_range.mpr h)

/-- The weights of the keys before `n`, relative to `M`. -/
def wsum (s : ℕ → EReal) (p n : ℕ) (M : EReal) : ℝ := ∑ κ ∈ Finset.range n, wt (tm s p κ) M

/-- The values of those keys, weighted. -/
def vsum (s : ℕ → EReal) (v : ℕ → ℝ) (p n : ℕ) (M : EReal) : ℝ := ∑ κ ∈ Finset.range n, v κ * wt (tm s p κ) M

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A block's scores: those of the keys seen, `⊥` elsewhere. -/
def blkS (s : ℕ → EReal) (p n : ℕ) (x : Fin 512) : EReal := if n + x.val ≤ p then s (n + x.val) else ⊥

theorem sum_blk (s : ℕ → EReal) (p n : ℕ) {M : EReal} (h : ∀ x < 512, tm s p (n + x) ≤ M) :
    (∑ x, Ideal.exp2 (blkS s p n x - M)) = ((∑ x ∈ Finset.range 512, wt (tm s p (n + x)) M : ℝ) : EReal) := by
  rw [Finset.sum_range, coe_sum]
  exact Finset.sum_congr rfl fun x _ => exp2_wt (h x.val x.isLt)

theorem vsum_blk (s : ℕ → EReal) (v : ℕ → ℝ) (p n : ℕ) {M : EReal} (h : ∀ x < 512, tm s p (n + x) ≤ M) :
    (∑ x : Fin 512, ((v (n + x.val) : ℝ) : EReal) * Ideal.exp2 (blkS s p n x - M))
      = ((∑ x ∈ Finset.range 512, v (n + x) * wt (tm s p (n + x)) M : ℝ) : EReal) := by
  rw [Finset.sum_range, coe_sum]
  refine Finset.sum_congr rfl fun x _ => ?_
  rw [EReal.coe_mul]
  exact congrArg _ (exp2_wt (h x.val x.isLt))

theorem ofBits_neg_inf : Ideal.ofBits FTy.f32 4286578688#32 = ⊥ := by
  simp [Ideal.ofBits, Ideal.ieee]

theorem nm_smax (s : ℕ → EReal) (p n : ℕ) : nm (smax s p n) (blkS s p n) = smax s p (n + 512) := by
  unfold nm mx
  refine le_antisymm (max_le (Finset.sup_mono (Finset.range_mono (Nat.le_add_right _ _))) ?_) (Finset.sup_le fun κ hκ => ?_)
  · rw [Finset.fold_max_le]
    exact ⟨by rw [ofBits_neg_inf]; exact bot_le, fun x _ => le_smax s p (by have := x.isLt; omega)⟩
  · rw [Finset.mem_range] at hκ
    by_cases h : κ < n
    · exact le_max_of_le_left (le_smax s p h)
    · refine le_max_of_le_right ?_
      rw [Finset.le_fold_max]
      refine Or.inr ⟨⟨κ - n, by omega⟩, Finset.mem_univ _, ?_⟩
      have e : n + (κ - n) = κ := by omega
      unfold blkS tm
      simp only [e, le_refl]

/-- The running values after the keys before `n`. -/
def Inv (s : ℕ → EReal) (v : Fin 128 → ℕ → ℝ) (p n : ℕ) (m l : EReal) (a : Fin 128 → EReal) : Prop :=
  m = smax s p n ∧ l = (wsum s p n (smax s p n) : ℝ) ∧ ∀ e, a e = (vsum s (v e) p n (smax s p n) : ℝ)

theorem wsum_shift (s : ℕ → EReal) (p n : ℕ) {M M' : EReal} (h : ∀ κ < n, tm s p κ ≤ M) (h' : M ≤ M') :
    wt M M' * wsum s p n M = wsum s p n M' := by
  unfold wsum
  rw [Finset.mul_sum]
  exact Finset.sum_congr rfl fun κ hκ => wt_mul (h κ (Finset.mem_range.mp hκ)) h'

theorem vsum_shift (s : ℕ → EReal) (v : ℕ → ℝ) (p n : ℕ) {M M' : EReal} (h : ∀ κ < n, tm s p κ ≤ M) (h' : M ≤ M') :
    wt M M' * vsum s v p n M = vsum s v p n M' := by
  unfold vsum
  rw [Finset.mul_sum]
  refine Finset.sum_congr rfl fun κ hκ => ?_
  rw [mul_left_comm, wt_mul (h κ (Finset.mem_range.mp hκ)) h']

/-- One block of keys more. -/
theorem Inv.step {s : ℕ → EReal} {v : Fin 128 → ℕ → ℝ} {p n : ℕ} {m l : EReal} {a : Fin 128 → EReal} (h : Inv s v p n m l a) :
    Inv s v p (n + 512) (nm m (blkS s p n)) (nl m l (blkS s p n))
      (fun e => na m (a e) (fun x => ((v e (n + x.val) : ℝ) : EReal)) (blkS s p n)) := by
  obtain ⟨rfl, rfl, ha⟩ := h
  have hM := nm_smax s p n
  have hle : smax s p n ≤ smax s p (n + 512) := hM ▸ le_max_left _ _
  have hb : ∀ x < 512, tm s p (n + x) ≤ smax s p (n + 512) := fun x hx => le_smax s p (by omega)
  have hn : ∀ κ < n, tm s p κ ≤ smax s p n := fun κ hκ => le_smax s p hκ
  refine ⟨hM, ?_, fun e => ?_⟩
  · unfold nl
    rw [hM, sum_blk s p n hb, exp2_wt hle, ← EReal.coe_mul, ← EReal.coe_add, wsum_shift s p n hn hle]
    unfold wsum
    rw [Finset.sum_range_add]
  · dsimp only
    unfold na
    rw [hM, vsum_blk s _ p n hb, ha, exp2_wt hle, ← EReal.coe_mul, ← EReal.coe_add, vsum_shift s _ p n hn hle]
    unfold vsum
    rw [Finset.sum_range_add]

/-- The first block of keys. -/
theorem Inv.first (s : ℕ → EReal) (v : Fin 128 → ℕ → ℝ) (p : ℕ) :
    Inv s v p 512 (nm ⊥ (blkS s p 0)) (nl ⊥ 0 (blkS s p 0))
      (fun e => na ⊥ 0 (fun x => ((v e (0 + x.val) : ℝ) : EReal)) (blkS s p 0)) := by
  have h0 : Inv s v p 0 ⊥ 0 (fun _ => 0) := ⟨by simp [smax], by simp [wsum], fun e => by simp [vsum]⟩
  have := h0.step
  rw [Nat.zero_add] at this
  exact this

/-! ## The quotient -/

/-- A row's weights in base `e`, and their sum. -/
def rwt (u : ℕ → EReal) (p κ : ℕ) : ℝ := ex (tm u p κ) (smax u p 4096)
def rl (u : ℕ → EReal) (p : ℕ) : ℝ := ∑ κ ∈ Finset.range 4096, rwt u p κ

/-- One position's attention: the values weighted by the softmax of its scores. -/
def att (u : ℕ → EReal) (v : ℕ → ℝ) (p : ℕ) : EReal := Ideal.div ((∑ κ ∈ Finset.range 4096, v κ * rwt u p κ : ℝ) : EReal) (rl u p : ℝ)

/-- A softmax weight. -/
def prob (u : ℕ → EReal) (p κ : ℕ) : EReal := Ideal.div (rwt u p κ : ℝ) (rl u p : ℝ)

theorem tm_scale (u : ℕ → EReal) (p κ : ℕ) : tm (fun κ => u κ * c2) p κ = tm u p κ * c2 := by
  unfold tm
  split
  · rfl
  · exact (EReal.bot_mul_coe_of_pos c2_pos).symm

theorem smax_scale (u : ℕ → EReal) (p n : ℕ) : smax (fun κ => u κ * c2) p n = smax u p n * c2 := by
  unfold smax
  refine Eq.trans ?_ (Finset.comp_sup_eq_sup_comp_of_is_total (fun x : EReal => x * c2)
    (fun x y h => mul_le_mul_of_nonneg_right h c2_nonneg) (EReal.bot_mul_coe_of_pos c2_pos)).symm
  exact congrArg _ (funext fun κ => tm_scale u p κ)

theorem tm_unseen (u : ℕ → EReal) {p κ : ℕ} (h : p < κ) : tm u p κ = ⊥ := if_neg (by omega)

theorem smax_all (u : ℕ → EReal) {p n : ℕ} (hp : p < n) (hn : n ≤ 4096) : smax u p n = smax u p 4096 := by
  refine le_antisymm (Finset.sup_mono (Finset.range_mono hn)) (Finset.sup_le fun κ _ => ?_)
  by_cases h : κ < n
  · exact le_smax u p h
  · rw [tm_unseen u (by omega)]; exact bot_le

/-- After the last block the quotient is the attention with the scores in base `e`. -/
theorem Inv.quot {u : ℕ → EReal} {v : Fin 128 → ℕ → ℝ} {p n : ℕ} {m l : EReal} {a : Fin 128 → EReal} (h : Inv (fun κ => u κ * c2) v p n m l a)
    (hp : p < n) (hn : n ≤ 4096) (e : Fin 128) : Ideal.div (a e) l = att u (v e) p := by
  obtain ⟨-, rfl, ha⟩ := h
  rw [ha]
  have hw : ∀ κ, wt (tm (fun κ => u κ * c2) p κ) (smax (fun κ => u κ * c2) p n) = rwt u p κ := fun κ => by
    rw [tm_scale, smax_scale, wt_scale, smax_all u hp hn, rwt]
  have hz : ∀ κ, n ≤ κ → rwt u p κ = 0 := fun κ hκ => by rw [rwt, tm_unseen u (by omega), ex_bot]
  have e1 : wsum (fun κ => u κ * c2) p n (smax (fun κ => u κ * c2) p n) = rl u p := by
    unfold wsum rl
    simp only [hw]
    refine Finset.sum_subset (Finset.range_mono hn) fun κ _ hκ => hz κ ?_
    rw [Finset.mem_range] at hκ; omega
  have e2 : vsum (fun κ => u κ * c2) (v e) p n (smax (fun κ => u κ * c2) p n) = ∑ κ ∈ Finset.range 4096, v e κ * rwt u p κ := by
    unfold vsum
    simp only [hw]
    refine Finset.sum_subset (Finset.range_mono hn) fun κ _ hκ => ?_
    rw [Finset.mem_range] at hκ
    rw [hz κ (by omega), mul_zero]
  rw [e1, e2, att]

/-! ## The reference's softmax -/

/-- A row of masked scores. -/
def rowS (u : ℕ → EReal) (p : ℕ) (κ : Fin 4096) : EReal := if κ.val ≤ p then u κ.val else ⊥

theorem row_max (u : ℕ → EReal) (p : ℕ) : Finset.fold max ⊥ (rowS u p) Finset.univ = smax u p 4096 := by
  refine le_antisymm ?_ (Finset.sup_le fun κ hκ => ?_)
  · rw [Finset.fold_max_le]
    exact ⟨bot_le, fun x _ => le_smax u p x.isLt⟩
  · rw [Finset.le_fold_max]
    exact Or.inr ⟨⟨κ, Finset.mem_range.mp hκ⟩, Finset.mem_univ _, le_rfl⟩

/-- The softmax as the reference computes it. -/
theorem softmax_eq (u : ℕ → EReal) (p : ℕ) (κ : Fin 4096) :
    Ideal.div (Ideal.exp (rowS u p κ - smax u p 4096)) (∑ x, Ideal.exp (rowS u p x - smax u p 4096)) = prob u p κ.val := by
  have e1 : ∀ x : Fin 4096, Ideal.exp (rowS u p x - smax u p 4096) = ((rwt u p x.val : ℝ) : EReal) := fun x => exp_ex (le_smax u p x.isLt)
  unfold prob rl
  rw [Finset.sum_range, coe_sum]
  simp only [e1]

theorem div_real {x y : ℝ} (hy : y ≠ 0) : Ideal.div (x : EReal) (y : EReal) = ((x / y : ℝ) : EReal) := by
  rw [Ideal.div_coe hy, ← EReal.coe_mul, mul_one_div]

/-- A row has either weights that are numbers, or none at all: then every weight and every quotient is `0/0`. -/
theorem row_cases (u : ℕ → EReal) (p : ℕ) :
    (∃ w : ℕ → ℝ, (∀ κ < 4096, prob u p κ = (w κ : EReal)) ∧ ∀ v : ℕ → ℝ, att u v p = ((∑ κ ∈ Finset.range 4096, v κ * w κ : ℝ) : EReal))
      ∨ ((∀ κ < 4096, prob u p κ = ⊥) ∧ ∀ v : ℕ → ℝ, att u v p = ⊥) := by
  by_cases h : rl u p = 0
  · have hz : ∀ κ < 4096, rwt u p κ = 0 := fun κ hκ =>
      (Finset.sum_eq_zero_iff_of_nonneg (fun κ _ => ex_nonneg _ _)).mp h κ (Finset.mem_range.mpr hκ)
    have hd : Ideal.div ((0 : ℝ) : EReal) ((0 : ℝ) : EReal) = ⊥ := by simp [Ideal.div]
    refine Or.inr ⟨fun κ hκ => ?_, fun v => ?_⟩
    · rw [prob, hz κ hκ, h, hd]
    · have hs : (∑ κ ∈ Finset.range 4096, v κ * rwt u p κ) = 0 :=
        Finset.sum_eq_zero fun κ hκ => by rw [hz κ (Finset.mem_range.mp hκ), mul_zero]
      rw [att, hs, h, hd]
  · refine Or.inl ⟨fun κ => rwt u p κ / rl u p, fun κ _ => div_real h, fun v => ?_⟩
    rw [att, div_real h, Finset.sum_div]
    simp only [mul_div_assoc]

end Cert.Attention
-- ==== Proof.Attn.Pts.lean ====
module
public import proofs.«01_k».proof.Proof.Attn.Math
public import proofs.«01_k».proof.Proof.AttnIdeal.Post

@[expose] public section
set_option maxRecDepth 16384

/-! The grid's points: the two tables' words, the path taken and the blocks' places. -/

noncomputable section
namespace Cert.KernelIdeal.Attn
open Cert.KernelIdeal Cert.KernelIdeal.Gen Idealize.ShloMosaic Idealize.ShloMosaic.TcCoe Idealize.SL.Sem
open Cert.Attention

/-- The query block of a step. -/
def qiF (s : ℕ) : ℕ := if s < 2 then 0 else if s < 6 then 1 else if s < 12 then 2 else 3

/-- The key block of a step. -/
def kiF (s : ℕ) : ℕ := if s < 2 then s else if s < 6 then s - 2 else if s < 12 then s - 6 else s - 12

theorem words : ∀ t : Fin (cfgA 0).N, wrd (pinT_0 0) (crd 0 t) = BitVec.ofNat 32 (qiF (t.val % 20))
    ∧ wrd (pinT_1 0) (crd 0 t) = BitVec.ofNat 32 (kiF (t.val % 20)) :=
  (by decide +kernel : ∀ t : Fin grid0.N, _)

theorem paths : ∀ t : Fin (cfgA 0).N, (P0_0 0 t ↔ kiF (t.val % 20) = 0) ∧ (P0_1 0 t ↔ kiF (t.val % 20) < 2 * qiF (t.val % 20))
    ∧ (P0_2 0 t ↔ kiF (t.val % 20) = 2 * qiF (t.val % 20) + 1) :=
  (by decide +kernel : ∀ t : Fin grid0.N, _)

theorem idx : ∀ t : Fin (cfgA 0).N, ((cfgA 0).win 0).index t = ![0, 0] ∧ ((cfgA 0).win 1).index t = ![0, 0]
    ∧ ((cfgA 0).win 2).index t = ![t.val / 160 * 4 + qiF (t.val % 20), t.val / 20 % 8]
    ∧ ((cfgA 0).win 3).index t = ![t.val / 160 * 8 + kiF (t.val % 20), t.val / 20 % 8]
    ∧ ((cfgA 0).win 4).index t = ![t.val / 160 * 8 + t.val / 20 % 8, kiF (t.val % 20)]
    ∧ ((cfgA 0).win 5).index t = ![t.val / 160 * 4 + qiF (t.val % 20), t.val / 20 % 8] :=
  (by decide +kernel : ∀ t : Fin grid0.N, _)

end Cert.KernelIdeal.Attn
-- ==== Proof.Attn.PathB.lean ====
module
public import proofs.«01_k».proof.Proof.Attn.Step

@[expose] public section
set_option maxRecDepth 16384

/-! One step of the online softmax along path B. -/

noncomputable section
namespace Cert.KernelIdeal.Attn
open Cert.KernelIdeal Cert.KernelIdeal.Gen Idealize.ShloMosaic Idealize.ShloMosaic.TcCoe Idealize.SL.Sem
open Cert.Attention

section
variable (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32)) (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (j : Fin 2048)

set_option maxHeartbeats 3200000 in
/-- Path B: the running maximum after the step. -/
theorem B_max {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch1) (kernelRun0_B c i arg5 harg5 arg6 harg6 arg7 harg7 arg8 harg8 arg9 harg9 arg10 harg10 T0 T1 x0 x1 x2 x3 x4 xa0 xa1 xa2 xa3 h0 h1 h2 h4).2.2.1 (ix2 0 j)
    = nm (xa1 (ix2 0 j)) (fun κ => smk qi ki x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 1) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 xa0 0 (by omega) j b hj]
       clear hj
       obtain ⟨jv, hjv⟩ := j
       dsimp only at hx1
       subst hx1
       simp only [nm, nl, na, mx, sc]
       try rfl
       done)
    | (have hj : j.val % 1024 = 512 + b.val := by omega
       rw [smk_eq hq hk hw0 hw1 x3 xa0 512 (by omega) j b hj]
       clear hj
       obtain ⟨jv, hjv⟩ := j
       dsimp only at hx1
       subst hx1
       simp only [nm, nl, na, mx, sc]
       try rfl
       done)
set_option maxHeartbeats 3200000 in
/-- Path B: the running sum after the step. -/
theorem B_sum {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch2) (kernelRun0_B c i arg5 harg5 arg6 harg6 arg7 harg7 arg8 harg8 arg9 harg9 arg10 harg10 T0 T1 x0 x1 x2 x3 x4 xa0 xa1 xa2 xa3 h0 h1 h2 h4).2.2.2.1 (ix2 0 j)
    = nl (xa1 (ix2 0 j)) (xa2 (ix2 0 j)) (fun κ => smk qi ki x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 1) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 xa0 0 (by omega) j b hj]
       clear hj
       obtain ⟨jv, hjv⟩ := j
       dsimp only at hx1
       subst hx1
       simp only [nm, nl, na, mx, sc]
       try rfl
       done)
    | (have hj : j.val % 1024 = 512 + b.val := by omega
       rw [smk_eq hq hk hw0 hw1 x3 xa0 512 (by omega) j b hj]
       clear hj
       obtain ⟨jv, hjv⟩ := j
       dsimp only at hx1
       subst hx1
       simp only [nm, nl, na, mx, sc]
       try rfl
       done)
set_option maxHeartbeats 3200000 in
/-- Path B: the weighted sum after the step. -/
theorem B_acc (e : Fin 128) {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch3) (kernelRun0_B c i arg5 harg5 arg6 harg6 arg7 harg7 arg8 harg8 arg9 harg9 arg10 harg10 T0 T1 x0 x1 x2 x3 x4 xa0 xa1 xa2 xa3 h0 h1 h2 h4).2.2.2.2.1 (ix2 e j)
    = na (xa1 (ix2 0 j)) (xa3 (ix2 e j)) (fun κ => x4 (ix2 e κ)) (fun κ => smk qi ki x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 128) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 xa0 0 (by omega) j b hj]
       clear hj
       obtain ⟨jv, hjv⟩ := j
       dsimp only at hx1
       subst hx1
       obtain rfl : e = a := Fin.ext hx0
       simp only [nm, nl, na, mx, sc]
       try rfl
       done)
    | (have hj : j.val % 1024 = 512 + b.val := by omega
       rw [smk_eq hq hk hw0 hw1 x3 xa0 512 (by omega) j b hj]
       clear hj
       obtain ⟨jv, hjv⟩ := j
       dsimp only at hx1
       subst hx1
       obtain rfl : e = a := Fin.ext hx0
       simp only [nm, nl, na, mx, sc]
       try rfl
       done)

/-- Path B: the queries stay. -/
theorem B_qs h0 h1 h2 h4 : (kernelRun0_B c i arg5 harg5 arg6 harg6 arg7 harg7 arg8 harg8 arg9 harg9 arg10 harg10 T0 T1 x0 x1 x2 x3 x4 xa0 xa1 xa2 xa3 h0 h1 h2 h4).2.1 = xa0 := rfl
end
end Cert.KernelIdeal.Attn
-- ==== Proof.Attn.OutB.lean ====
module
public import proofs.«01_k».proof.Proof.Attn.PathB

@[expose] public section
set_option maxRecDepth 16384

/-! What the last step of a query block stores. -/

noncomputable section

namespace Cert.Attention
open Idealize.ShloMosaic

/-- One entry of a head's output: the difference normed over the head's lanes, weighted and scaled. -/
def nrm (y w : Fin 128 → EReal) (e : Fin 128) : EReal :=
  ((y e * Ideal.rsqrt (Ideal.div (∑ d, y d * y d) (Ideal.ofBits FTy.f32 0x43000000#32) + Ideal.ofBits FTy.f32 0x358637BD#32)) * w e)
    * Ideal.ofBits FTy.f32 0x3F4CCCCD#32

/-- The weight of the second softmax. -/
def lamv (x : Fin 4 → Fin 64 → EReal) : EReal :=
  (Ideal.exp (∑ d, x 0 d * x 1 d) - Ideal.exp (∑ d, x 2 d * x 3 d)) + Ideal.ofBits FTy.f32 0x3E4CCCCD#32

end Cert.Attention

namespace Cert.KernelIdeal.Attn
open Cert.KernelIdeal Cert.KernelIdeal.Gen Idealize.ShloMosaic Idealize.ShloMosaic.TcCoe Idealize.SL.Sem
open Cert.Attention

/-- The stored block, entry by entry. -/
theorem pay79_at (x0 : Vec Ideal S4x64 .f32) (a : Vec Ideal S128x2048 .f32) (l : Vec Ideal S1x2048 .f32) (w : Vec Ideal S128x1 .f32)
    (r : Fin 1024) (e : Fin 128) :
    k0_pay79 (F := Ideal) x0 a l w (ix2 r e)
      = nrm (fun d => Ideal.div (a (ix2 d ⟨r.val, by omega⟩)) (l (ix2 0 ⟨r.val, by omega⟩))
          - lamv (fun i d => x0 (ix2 i d)) * Ideal.div (a (ix2 d ⟨1024 + r.val, by omega⟩)) (l (ix2 0 ⟨1024 + r.val, by omega⟩)))
          (fun d => w (ix2 d 0)) e := by
  pointwise [k0_pay79]
  rfl
/-- One store of the whole output block leaves what was stored. -/
theorem out_whole (w : S1024x128.Idx → Elt Ideal .bf16) :
    VO0_5.read (Elt Ideal) (VO0_5.writes (Elt Ideal) VO0_5.junk [⟨Rect.unit ![0, 0] S1024x128.size inb_S1024x128_S1024x128_0_0, w⟩]) = w := by
  frame_out

theorem pay79_congr {x0 x0' : Vec Ideal S4x64 .f32} {a a' : Vec Ideal S128x2048 .f32} {l l' : Vec Ideal S1x2048 .f32} {w w' : Vec Ideal S128x1 .f32}
    (h0 : x0 = x0') (ha : a = a') (hl : l = l') (hw : w = w') : k0_pay79 (F := Ideal) x0 a l w = k0_pay79 (F := Ideal) x0' a' l' w' := by
  subst h0 ha hl hw; rfl

section
variable (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32)) (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3))

set_option maxHeartbeats 3200000 in
/-- Path B: the block it stores, of the sums as the step leaves them. -/
theorem B_out h0 h1 h2 h4 : (out0_B_5 c i arg5 harg5 arg6 harg6 arg7 harg7 arg8 harg8 arg9 harg9 arg10 harg10 T0 T1 x0 x1 x2 x3 x4 xa0 xa1 xa2 xa3 h0 h1 h2 h4)
    = k0_pay79 (F := Ideal) x0 (View.read (Elt Ideal) (View.whole cc0_scratch3) (kernelRun0_B c i arg5 harg5 arg6 harg6 arg7 harg7 arg8 harg8 arg9 harg9 arg10 harg10 T0 T1 x0 x1 x2 x3 x4 xa0 xa1 xa2 xa3 h0 h1 h2 h4).2.2.2.2.1)
        (View.read (Elt Ideal) (View.whole cc0_scratch2) (kernelRun0_B c i arg5 harg5 arg6 harg6 arg7 harg7 arg8 harg8 arg9 harg9 arg10 harg10 T0 T1 x0 x1 x2 x3 x4 xa0 xa1 xa2 xa3 h0 h1 h2 h4).2.2.2.1) x1 := by
  refine (out_whole _).trans ?_
  refine pay79_congr ?_ ?_ ?_ ?_
  · exact (congrArg (fun X => View.ld X (Rect.unit ![0, 0] S4x64.size inb_S4x64_S4x64_0_0)) (View.read_rep arg5.view x0)).trans (View.ld_unit_lit (S := S4x64) inb_S4x64_S4x64_0_0 x0 (by decide))
  · exact View.ld_unit_lit (S := S128x2048) inb_S128x2048_S128x2048_0_0 _ (by decide)
  · exact View.ld_unit_lit (S := S1x2048) inb_S1x2048_S1x2048_0_0 _ (by decide)
  · exact (congrArg (fun X => View.ld X (Rect.unit ![0, 0] S128x1.size inb_S128x1_S128x1_0_0)) (View.read_rep arg6.view x1)).trans (View.ld_unit_lit (S := S128x1) inb_S128x1_S128x1_0_0 x1 (by decide))
end
end Cert.KernelIdeal.Attn
-- ==== Proof.Attn.Blk.lean ====
module
public import proofs.«01_k».proof.Proof.Attn.Pts
public import proofs.«01_k».proof.Proof.Attn.OutB
public import Idealize.ShloMosaic.Lib.Pipeline.ReadBack
public import Idealize.ShloMosaic.Lib.StableHlo.RunRead

@[expose] public section
set_option maxRecDepth 16384

/-! The blocks a grid point reads, in the arguments. -/

noncomputable section
namespace Cert.KernelIdeal.Attn
open Cert.KernelIdeal Cert.KernelIdeal.Gen Idealize.ShloMosaic Idealize.ShloMosaic.TcCoe Idealize.SL.Sem
open Cert.Attention

/-- The factor the host puts on the queries. -/
def scl : EReal := Ideal.div (Ideal.ofBits FTy.f32 0x3E000000#32) (Ideal.log (Ideal.ofBits FTy.f32 0x40000000#32))

variable (m : (ℓ : Loc nD τ sig) → Buf (Elt Ideal) ℓ) (ρ : Dev nD → PrngReg) (c : Dev nD) (t : Fin (cfgA 0).N)

theorem tlt : t.val < 640 := t.isLt

theorem qi_lt (s : ℕ) : qiF s < 4 := by unfold qiF; split_ifs <;> omega
theorem ki_lt (s : ℕ) (h : s < 20) : kiF s < 8 := by unfold kiF; split_ifs <;> omega
theorem ki_le (s : ℕ) (h : s < 20) : kiF s ≤ 2 * qiF s + 1 := by unfold kiF qiF; split_ifs <;> omega

/-- The batch, the head pair, the query block and the key block of a point. -/
def bT : Fin 4 := ⟨t.val / 160, by have := tlt t; omega⟩
def hT : Fin 8 := ⟨t.val / 20 % 8, by omega⟩
abbrev qT : ℕ := qiF (t.val % 20)
abbrev kT : ℕ := kiF (t.val % 20)

theorem qT_lt : qT t < 4 := qi_lt _
theorem kT_lt : kT t < 8 := ki_lt _ (by omega)

theorem ix4_ext {n0 n1 n2 n3 : ℕ} {a a' : Fin n0} {b b' : Fin n1} {x x' : Fin n2} {d d' : Fin n3} (ha : a.val = a'.val)
    (hb : b.val = b'.val) (hx : x.val = x'.val) (hd : d.val = d'.val) : ix4 a b x d = ix4 a' b' x' d' := by
  obtain rfl := Fin.ext ha; obtain rfl := Fin.ext hb; obtain rfl := Fin.ext hx; obtain rfl := Fin.ext hd; rfl

/-- The arguments. -/
abbrev qA : FVec Ideal S4x4096x16x64 .f32 := m ((c : Thread nD τ).loc main_arg0)
abbrev kA : FVec Ideal S4x4096x16x64 .f32 := m ((c : Thread nD τ).loc main_arg1)
abbrev vA : FVec Ideal S4x4096x8x128 .f32 := m ((c : Thread nD τ).loc main_arg2)
abbrev lA : FVec Ideal S4x64 .f32 := m ((c : Thread nD τ).loc main_arg3)
abbrev gA : FVec Ideal S128 .f32 := m ((c : Thread nD τ).loc main_arg4)

theorem b0 (i : Fin 4) (d : Fin 64) : iblk 0 m ρ c 0 t (ix2 i d) = lA m c (ix2 i d) := by
  blk_ext! [iblk, V, idx t]
theorem b1 (e : Fin 128) : iblk 0 m ρ c 1 t (ix2 e 0) = gA m c (ix1 e) := by
  blk_ext! [iblk, V, idx t]
theorem b2 (r : Fin 1024) (l : Fin 128) : iblk 0 m ρ c 2 t (ix2 r l)
    = (qA m c (ix4 (bT t) ⟨qT t * 1024 + r.val, by have := qT_lt t; omega⟩ ⟨(hT t).val * 2 + l.val / 64, by have := (hT t).isLt; omega⟩ ⟨l.val % 64, by omega⟩) : EReal) * scl := by
  blk_simp [iblk, V, idx t]
  have hn : t.val / 160 * 4096 + qT t * 1024 + r.val < 16384 := by have := qT_lt t; have := tlt t; omega
  have hl : t.val / 20 % 8 * 128 + l.val < 1024 := by omega
  have e : ((View.whole main_v5).slice (((cfgA 0).win 2).rect t)).emb (ix2 r l)
      = ix2 (⟨t.val / 160 * 4096 + qT t * 1024 + r.val, hn⟩ : Fin 16384) (⟨t.val / 20 % 8 * 128 + l.val, hl⟩ : Fin 1024) := by
    blk_ext [idx t]
    all_goals (have := qT_lt t; have := tlt t; simp only [qT] at *; omega)
  erw [e]
  entry_read
  pointwise
  refine congrArg (fun i => (qA m c i : EReal) * scl) (ix4_ext ?_ ?_ ?_ ?_)
  all_goals (have := qT_lt t; have := tlt t; have := r.isLt; have := l.isLt; simp only [bT, hT, qT] at *; omega)
theorem b3 (x : Fin 512) (l : Fin 128) : iblk 0 m ρ c 3 t (ix2 x l)
    = kA m c (ix4 (bT t) ⟨kT t * 512 + x.val, by have := kT_lt t; omega⟩ ⟨(hT t).val * 2 + l.val / 64, by have := (hT t).isLt; omega⟩ ⟨l.val % 64, by omega⟩) := by
  blk_ext! [iblk, V, idx t]
  all_goals (have := kT_lt t; have := tlt t; simp only [bT, hT, qT, kT] at *; omega)
theorem b4 (e : Fin 128) (x : Fin 512) : iblk 0 m ρ c 4 t (ix2 e x)
    = vA m c (ix4 (bT t) ⟨kT t * 512 + x.val, by have := kT_lt t; omega⟩ (hT t) e) := by
  blk_ext! [iblk, V, idx t]
  all_goals (have := kT_lt t; have := tlt t; simp only [bT, hT, qT, kT] at *; omega)

end Cert.KernelIdeal.Attn
-- ==== Proof.Attn.Score.lean ====
module
public import proofs.«01_k».proof.Proof.Attn.Blk

@[expose] public section
set_option maxRecDepth 16384

/-! The scores of a block in the arguments. -/

noncomputable section
namespace Cert.Attention
open Idealize.ShloMosaic

/-- A score, in base `e`. -/
def S (q k : ℕ → ℕ → ℕ → ℕ → EReal) (b h p κ : ℕ) : EReal := (∑ d : Fin 64, q b p h d.val * k b κ h d.val) * ((1 / 8 : ℝ) : EReal)

/-- A nonnegative factor goes into a sum. -/
theorem sum_mul_coe {ι : Type} (A : Finset ι) (f : ι → EReal) {r : ℝ} (h : 0 ≤ r) : (∑ i ∈ A, f i) * (r : EReal) = ∑ i ∈ A, f i * (r : EReal) := by
  classical
  induction A using Finset.induction_on with
  | empty => simp
  | insert a A ha ih =>
    rw [Finset.sum_insert ha, Finset.sum_insert ha, EReal.right_distrib_of_nonneg_of_ne_top (EReal.coe_nonneg.mpr h) (EReal.coe_ne_top r), ih]

/-- The scale the queries carry is the scores' scale and the factor between the bases. -/
theorem scale_score (f g : Fin 64 → EReal) : (∑ d, f d * (g d * ((1 / 8 / Real.log 2 : ℝ) : EReal)))
    = ((∑ d, g d * f d) * ((1 / 8 : ℝ) : EReal)) * c2 := by
  have e : ((1 / 8 : ℝ) : EReal) * c2 = ((1 / 8 / Real.log 2 : ℝ) : EReal) := by
    rw [c2, ← EReal.coe_mul, mul_one_div]
  rw [mul_assoc, e, sum_mul_coe _ _ (div_nonneg (by norm_num) (Real.log_pos (by norm_num)).le)]
  refine Finset.sum_congr rfl fun d _ => ?_
  rw [← mul_assoc, mul_comm (f d)]

theorem ofBits_eighth : Ideal.ofBits FTy.f32 0x3E000000#32 = ((1 / 8 : ℝ) : EReal) := by
  simp [Ideal.ofBits, Ideal.ieee]
  norm_num
  rw [← EReal.coe_mul]
  norm_num

theorem ofBits_two : Ideal.ofBits FTy.f32 0x40000000#32 = ((2 : ℝ) : EReal) := by
  simp [Ideal.ofBits, Ideal.ieee]
  norm_num
  rw [← EReal.coe_mul]
  norm_num

theorem ofBits_init : ∃ r : ℝ, Ideal.ofBits FTy.f32 0x3E4CCCCD#32 = (r : EReal) := by
  simp [Ideal.ofBits, Ideal.ieee]
  exact ⟨_, rfl⟩

/-- A sum over 128 lanes where one half is zero. -/
theorem half (f g : Fin 128 → EReal) (j : ℕ) (hj : j < 2048) :
    (∑ l : Fin 128, f l * (if (j < 1024 ↔ l.val < 64) then g l else 0))
      = ∑ d : Fin 64, f ⟨j / 1024 * 64 + d.val, by omega⟩ * g ⟨j / 1024 * 64 + d.val, by omega⟩ := by
  have e : ∀ F : Fin 128 → EReal, (∑ l, F l) = (∑ d : Fin 64, F ⟨d.val, by omega⟩) + ∑ d : Fin 64, F ⟨64 + d.val, by omega⟩ :=
    fun F => Fin.sum_univ_add (a := 64) (b := 64) F
  rw [e]
  by_cases h : j < 1024
  · have h0 : j / 1024 = 0 := by omega
    have z : (∑ d : Fin 64, f ⟨64 + d.val, by omega⟩ * (if (j < 1024 ↔ 64 + d.val < 64) then g ⟨64 + d.val, by omega⟩ else 0)) = 0 :=
      Finset.sum_eq_zero fun d _ => by rw [if_neg (by omega), mul_zero]
    refine (congrArg _ z).trans ((add_zero _).trans (Finset.sum_congr rfl fun d _ => ?_))
    rw [if_pos (by have := d.isLt; simp only; omega)]
    simp only [h0, Nat.zero_mul, Nat.zero_add]
  · have h1 : j / 1024 = 1 := by omega
    have z : (∑ d : Fin 64, f ⟨d.val, by omega⟩ * (if (j < 1024 ↔ d.val < 64) then g ⟨d.val, by omega⟩ else 0)) = 0 :=
      Finset.sum_eq_zero fun d _ => by rw [if_neg (by have := d.isLt; omega), mul_zero]
    refine (congrArg (· + _) z).trans ((zero_add _).trans (Finset.sum_congr rfl fun d _ => ?_))
    rw [if_pos (by simp only; omega)]
    simp only [h1, Nat.one_mul]

end Cert.Attention

namespace Cert.KernelIdeal.Attn
open Cert.KernelIdeal Cert.KernelIdeal.Gen Idealize.ShloMosaic Idealize.ShloMosaic.TcCoe Idealize.SL.Sem
open Cert.Attention

theorem scl_eq : scl = ((1 / 8 / Real.log 2 : ℝ) : EReal) := by
  unfold scl
  rw [ofBits_eighth, ofBits_two, Ideal.log_coe, if_neg (by norm_num), div_real (Real.log_pos (by norm_num)).ne']

theorem lane_cond (l : Fin 128) : IntOp.cmpi CmpIPredicate.slt (BitVec.ofNat 32 l.val) 64#32 = if l.val < 64 then 1#1 else 0#1 :=
  (by decide : ∀ l : Fin 128, IntOp.cmpi CmpIPredicate.slt (BitVec.ofNat 32 l.val) 64#32 = if l.val < 64 then 1#1 else 0#1) l

/-- The stacked queries: a row keeps its own half of the lanes. -/
theorem pay4_at (x2 : FVec Ideal S1024x128 .bf16) (j : Fin 2048) (l : Fin 128) : k0_pay4 (F := Ideal) x2 (ix2 j l)
    = if (j.val < 1024 ↔ l.val < 64) then x2 (ix2 ⟨j.val % 1024, by omega⟩ l) else 0 := by
  pointwise [k0_pay4]
  rw [lane_cond]
  have hj := j.isLt
  by_cases h : j.val < 1024
  · rw [dif_pos h]
    have e : (⟨j.val, h⟩ : Fin 1024) = ⟨j.val % 1024, by omega⟩ := Fin.ext (by simp only; omega)
    by_cases hl : l.val < 64
    · rw [if_pos hl, if_pos (show (j.val < 1024 ↔ l.val < 64) by tauto)]; exact congrArg (fun r => x2 (ix2 r l)) e
    · rw [if_neg hl, if_neg (show ¬(j.val < 1024 ↔ l.val < 64) by tauto)]; rfl
  · rw [dif_neg h]
    have e : (⟨j.val - 1024, by omega⟩ : Fin 1024) = ⟨j.val % 1024, by omega⟩ := Fin.ext (by simp only; omega)
    by_cases hl : l.val < 64
    · rw [if_pos hl, if_neg (show ¬(j.val < 1024 ↔ l.val < 64) by tauto)]; rfl
    · rw [if_neg hl, if_pos (show (j.val < 1024 ↔ l.val < 64) by tauto)]; exact congrArg (fun r => x2 (ix2 r l)) e

/-- A score of blocks of numbers. -/
theorem sc_num (K : FVec Ideal S512x128 .bf16) (X : FVec Ideal S1024x128 .bf16) (kk qq : ℕ → ℕ → ℕ → EReal)
    (hK : ∀ (κ : Fin 512) (l : Fin 128), K (ix2 κ l) = kk κ.val (l.val / 64) (l.val % 64))
    (hX : ∀ (r : Fin 1024) (l : Fin 128), X (ix2 r l) = qq r.val (l.val / 64) (l.val % 64)) (κ : Fin 512) (j : Fin 2048) :
    sc K (k0_pay4 (F := Ideal) X) κ j = ∑ d : Fin 64, kk κ.val (j.val / 1024) d.val * qq (j.val % 1024) (j.val / 1024) d.val := by
  unfold sc
  simp only [pay4_at]
  have hj := j.isLt
  refine (half (fun l => K (ix2 κ l)) (fun l => X (ix2 ⟨j.val % 1024, by omega⟩ l)) j.val j.isLt).trans ?_
  refine Finset.sum_congr rfl fun d _ => ?_
  have hd := d.isLt
  have h1 : (j.val / 1024 * 64 + d.val) / 64 = j.val / 1024 := by omega
  have h2 : (j.val / 1024 * 64 + d.val) % 64 = d.val := by omega
  rw [hK, hX]
  simp only [h1, h2]

variable (m : (ℓ : Loc nD τ sig) → Buf (Elt Ideal) ℓ) (ρ : Dev nD → PrngReg) (c : Dev nD) (t : Fin (cfgA 0).N)

/-- The arguments by position, the values numbers. -/
structure Real4 (q k : ℕ → ℕ → ℕ → ℕ → EReal) (v : ℕ → ℕ → ℕ → ℕ → ℝ) : Prop where
  hq : ∀ (b : Fin 4) (p : Fin 4096) (h : Fin 16) (d : Fin 64), qA m c (ix4 b p h d) = q b.val p.val h.val d.val
  hk : ∀ (b : Fin 4) (p : Fin 4096) (h : Fin 16) (d : Fin 64), kA m c (ix4 b p h d) = k b.val p.val h.val d.val
  hv : ∀ (b : Fin 4) (p : Fin 4096) (h : Fin 8) (d : Fin 128), vA m c (ix4 b p h d) = ((v b.val p.val h.val d.val : ℝ) : EReal)

variable {m ρ c t} {q k : ℕ → ℕ → ℕ → ℕ → EReal} {v : ℕ → ℕ → ℕ → ℕ → ℝ} (R : Real4 m c q k v)
include R

/-- A block's score in a column. -/
theorem sc_blk (κ : Fin 512) (j : Fin 2048) : sc (iblk 0 m ρ c 3 t) (k0_pay4 (F := Ideal) (iblk 0 m ρ c 2 t)) κ j
    = S q k (bT t).val ((hT t).val * 2 + j.val / 1024) (qT t * 1024 + j.val % 1024) (kT t * 512 + κ.val) * c2 := by
  refine (sc_num _ _ (fun κ a d => k (bT t).val (kT t * 512 + κ) ((hT t).val * 2 + a) d)
    (fun r a d => q (bT t).val (qT t * 1024 + r) ((hT t).val * 2 + a) d * ((1 / 8 / Real.log 2 : ℝ) : EReal)) (fun κ l => ?_) (fun r l => ?_) κ j).trans ?_
  · rw [b3, R.hk]
  · rw [b2, R.hq, scl_eq]
  exact scale_score _ _

/-- The masked scores of a block. -/
theorem smk_blk {Q : S2048x128.Idx → Elt Ideal .bf16} (hQ : Q = k0_pay4 (F := Ideal) (iblk 0 m ρ c 2 t)) (j : Fin 2048) :
    (fun κ => smk (qT t) (kT t) (iblk 0 m ρ c 3 t) Q κ j)
      = blkS (fun κ => S q k (bT t).val ((hT t).val * 2 + j.val / 1024) (qT t * 1024 + j.val % 1024) κ * c2)
          (qT t * 1024 + j.val % 1024) (kT t * 512) := by
  subst hQ
  funext κ
  unfold smk blkS
  rw [sc_blk R]

/-- The scores of a block all of whose keys are seen. -/
theorem sc_blkS (hk : kT t < 2 * qT t) {Q : S2048x128.Idx → Elt Ideal .bf16} (hQ : Q = k0_pay4 (F := Ideal) (iblk 0 m ρ c 2 t)) (j : Fin 2048) :
    (fun κ => sc (iblk 0 m ρ c 3 t) Q κ j)
      = blkS (fun κ => S q k (bT t).val ((hT t).val * 2 + j.val / 1024) (qT t * 1024 + j.val % 1024) κ * c2)
          (qT t * 1024 + j.val % 1024) (kT t * 512) := by
  subst hQ
  funext κ
  unfold blkS
  have := κ.isLt
  rw [sc_blk R, if_pos (by omega)]

/-- The values of a block. -/
theorem v_blk (e : Fin 128) : (fun κ => (iblk 0 m ρ c 4 t (ix2 e κ) : EReal))
    = fun κ : Fin 512 => ((v (bT t).val (kT t * 512 + κ.val) (hT t).val e.val : ℝ) : EReal) := by
  funext κ
  rw [b4, R.hv]

end Cert.KernelIdeal.Attn
-- ==== Proof.Attn.PathA.lean ====
module
public import proofs.«01_k».proof.Proof.Attn.Step

@[expose] public section
set_option maxRecDepth 16384

/-! One step of the online softmax along path A. -/

noncomputable section
namespace Cert.KernelIdeal.Attn
open Cert.KernelIdeal Cert.KernelIdeal.Gen Idealize.ShloMosaic Idealize.ShloMosaic.TcCoe Idealize.SL.Sem
open Cert.Attention

section
variable (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32)) (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (j : Fin 2048)

set_option maxHeartbeats 3200000 in
/-- Path A: the running maximum after the step. -/
theorem A_max {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch1) (kernelRun0_A c i arg5 harg5 arg6 harg6 arg7 harg7 arg8 harg8 arg9 harg9 arg10 harg10 T0 T1 x0 x1 x2 x3 x4 h0 h1 h2 h4).2.1 (ix2 0 j)
    = nm ((⊥ : EReal)) (fun κ => smk qi ki x3 (k0_pay4 (F := Ideal) x2) κ j) := by
  frame_open
  simp (disch := decide) only [↓ View.readCov_skip, ↓ View.readCov_cons_toLoadRect, ↓ View.readCov_fill]
  frame_out
  rw [canon_four _ _ _ _ _ ![1, 512] (by rfl)]
  canon_tiles x hx
  all_goals
    obtain ⟨a, b, rfl⟩ : ∃ (a : Fin 1) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 (k0_pay4 (F := Ideal) x2) 0 (by omega) j b hj]
       clear hj
       obtain ⟨jv, hjv⟩ := j
       dsimp only at hx1
       subst hx1
       simp only [nm, nl, na, mx, sc]
       try rfl
       done)
    | (have hj : j.val % 1024 = 512 + b.val := by omega
       rw [smk_eq hq hk hw0 hw1 x3 (k0_pay4 (F := Ideal) x2) 512 (by omega) j b hj]
       clear hj
       obtain ⟨jv, hjv⟩ := j
       dsimp only at hx1
       subst hx1
       simp only [nm, nl, na, mx, sc]
       try rfl
       done)
set_option maxHeartbeats 3200000 in
/-- Path A: the running sum after the step. -/
theorem A_sum {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch2) (kernelRun0_A c i arg5 harg5 arg6 harg6 arg7 harg7 arg8 harg8 arg9 harg9 arg10 harg10 T0 T1 x0 x1 x2 x3 x4 h0 h1 h2 h4).2.2.1 (ix2 0 j)
    = nl ((⊥ : EReal)) ((0 : EReal)) (fun κ => smk qi ki x3 (k0_pay4 (F := Ideal) x2) κ j) := by
  frame_open
  simp (disch := decide) only [↓ View.readCov_skip, ↓ View.readCov_cons_toLoadRect, ↓ View.readCov_fill]
  frame_out
  rw [canon_four _ _ _ _ _ ![1, 512] (by rfl)]
  canon_tiles x hx
  all_goals
    obtain ⟨a, b, rfl⟩ : ∃ (a : Fin 1) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 (k0_pay4 (F := Ideal) x2) 0 (by omega) j b hj]
       clear hj
       obtain ⟨jv, hjv⟩ := j
       dsimp only at hx1
       subst hx1
       simp only [nm, nl, na, mx, sc]
       try rfl
       done)
    | (have hj : j.val % 1024 = 512 + b.val := by omega
       rw [smk_eq hq hk hw0 hw1 x3 (k0_pay4 (F := Ideal) x2) 512 (by omega) j b hj]
       clear hj
       obtain ⟨jv, hjv⟩ := j
       dsimp only at hx1
       subst hx1
       simp only [nm, nl, na, mx, sc]
       try rfl
       done)
set_option maxHeartbeats 3200000 in
/-- Path A: the weighted sum after the step. -/
theorem A_acc (e : Fin 128) {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch3) (kernelRun0_A c i arg5 harg5 arg6 harg6 arg7 harg7 arg8 harg8 arg9 harg9 arg10 harg10 T0 T1 x0 x1 x2 x3 x4 h0 h1 h2 h4).2.2.2.1 (ix2 e j)
    = na ((⊥ : EReal)) ((0 : EReal)) (fun κ => x4 (ix2 e κ)) (fun κ => smk qi ki x3 (k0_pay4 (F := Ideal) x2) κ j) := by
  frame_open
  simp (disch := decide) only [↓ View.readCov_skip, ↓ View.readCov_cons_toLoadRect, ↓ View.readCov_fill]
  frame_out
  rw [canon_four _ _ _ _ _ ![128, 512] (by rfl)]
  canon_tiles x hx
  all_goals
    obtain ⟨a, b, rfl⟩ : ∃ (a : Fin 128) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 (k0_pay4 (F := Ideal) x2) 0 (by omega) j b hj]
       clear hj
       obtain ⟨jv, hjv⟩ := j
       dsimp only at hx1
       subst hx1
       obtain rfl : e = a := Fin.ext hx0
       simp only [nm, nl, na, mx, sc]
       try rfl
       done)
    | (have hj : j.val % 1024 = 512 + b.val := by omega
       rw [smk_eq hq hk hw0 hw1 x3 (k0_pay4 (F := Ideal) x2) 512 (by omega) j b hj]
       clear hj
       obtain ⟨jv, hjv⟩ := j
       dsimp only at hx1
       subst hx1
       obtain rfl : e = a := Fin.ext hx0
       simp only [nm, nl, na, mx, sc]
       try rfl
       done)

/-- Path A: the queries are laid out. -/
theorem A_qs h0 h1 h2 h4 : View.read (Elt Ideal) (View.whole cc0_scratch0) (kernelRun0_A c i arg5 harg5 arg6 harg6 arg7 harg7 arg8 harg8 arg9 harg9 arg10 harg10 T0 T1 x0 x1 x2 x3 x4 h0 h1 h2 h4).1 = k0_pay4 (F := Ideal) x2 := by
  frame_open
  frame_out
  rw [View.read_rep]
  exact View.canon_cons_unit_lit (S := S2048x128) inb_S2048x128_S2048x128_0_0 _ _ (by decide)
end
end Cert.KernelIdeal.Attn
-- ==== Proof.Attn.PathC.lean ====
module
public import proofs.«01_k».proof.Proof.Attn.Step

@[expose] public section
set_option maxRecDepth 16384

/-! One step of the online softmax along path C. -/

noncomputable section
namespace Cert.KernelIdeal.Attn
open Cert.KernelIdeal Cert.KernelIdeal.Gen Idealize.ShloMosaic Idealize.ShloMosaic.TcCoe Idealize.SL.Sem
open Cert.Attention

section
variable (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32)) (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (j : Fin 2048)

set_option maxHeartbeats 3200000 in
/-- Path C: the running maximum after the step. -/
theorem C_max h0 h1 h2 h4 : View.read (Elt Ideal) (View.whole cc0_scratch1) (kernelRun0_C c i arg5 harg5 arg6 harg6 arg7 harg7 arg8 harg8 arg9 harg9 arg10 harg10 T0 T1 x0 x1 x2 x3 x4 h0 h1 h2 h4).2.1 (ix2 0 j)
    = nm ((⊥ : EReal)) (fun κ => sc x3 (k0_pay4 (F := Ideal) x2) κ j) := by
  frame_open
  simp (disch := decide) only [↓ View.readCov_skip, ↓ View.readCov_cons_toLoadRect, ↓ View.readCov_fill]
  frame_out
  rw [canon_four _ _ _ _ _ ![1, 512] (by rfl)]
  canon_tiles x hx
  all_goals
    obtain ⟨a, b, rfl⟩ : ∃ (a : Fin 1) (b : Fin 512), x = ix2 a b := ⟨x 0, x 1, eq_ix2 x⟩
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    obtain ⟨jv, hjv⟩ := j
    dsimp only at hx1
    subst hx1
    simp only [nm, nl, na, mx, sc]
    try rfl
    done
set_option maxHeartbeats 3200000 in
/-- Path C: the running sum after the step. -/
theorem C_sum h0 h1 h2 h4 : View.read (Elt Ideal) (View.whole cc0_scratch2) (kernelRun0_C c i arg5 harg5 arg6 harg6 arg7 harg7 arg8 harg8 arg9 harg9 arg10 harg10 T0 T1 x0 x1 x2 x3 x4 h0 h1 h2 h4).2.2.1 (ix2 0 j)
    = nl ((⊥ : EReal)) ((0 : EReal)) (fun κ => sc x3 (k0_pay4 (F := Ideal) x2) κ j) := by
  frame_open
  simp (disch := decide) only [↓ View.readCov_skip, ↓ View.readCov_cons_toLoadRect, ↓ View.readCov_fill]
  frame_out
  rw [canon_four _ _ _ _ _ ![1, 512] (by rfl)]
  canon_tiles x hx
  all_goals
    obtain ⟨a, b, rfl⟩ : ∃ (a : Fin 1) (b : Fin 512), x = ix2 a b := ⟨x 0, x 1, eq_ix2 x⟩
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    obtain ⟨jv, hjv⟩ := j
    dsimp only at hx1
    subst hx1
    simp only [nm, nl, na, mx, sc]
    try rfl
    done
set_option maxHeartbeats 3200000 in
/-- Path C: the weighted sum after the step. -/
theorem C_acc (e : Fin 128) h0 h1 h2 h4 : View.read (Elt Ideal) (View.whole cc0_scratch3) (kernelRun0_C c i arg5 harg5 arg6 harg6 arg7 harg7 arg8 harg8 arg9 harg9 arg10 harg10 T0 T1 x0 x1 x2 x3 x4 h0 h1 h2 h4).2.2.2.1 (ix2 e j)
    = na ((⊥ : EReal)) ((0 : EReal)) (fun κ => x4 (ix2 e κ)) (fun κ => sc x3 (k0_pay4 (F := Ideal) x2) κ j) := by
  frame_open
  simp (disch := decide) only [↓ View.readCov_skip, ↓ View.readCov_cons_toLoadRect, ↓ View.readCov_fill]
  frame_out
  rw [canon_four _ _ _ _ _ ![128, 512] (by rfl)]
  canon_tiles x hx
  all_goals
    obtain ⟨a, b, rfl⟩ : ∃ (a : Fin 128) (b : Fin 512), x = ix2 a b := ⟨x 0, x 1, eq_ix2 x⟩
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    obtain ⟨jv, hjv⟩ := j
    dsimp only at hx1
    subst hx1
    obtain rfl : e = a := Fin.ext hx0
    simp only [nm, nl, na, mx, sc]
    try rfl
    done

/-- Path C: the queries are laid out. -/
theorem C_qs h0 h1 h2 h4 : View.read (Elt Ideal) (View.whole cc0_scratch0) (kernelRun0_C c i arg5 harg5 arg6 harg6 arg7 harg7 arg8 harg8 arg9 harg9 arg10 harg10 T0 T1 x0 x1 x2 x3 x4 h0 h1 h2 h4).1 = k0_pay4 (F := Ideal) x2 := by
  frame_open
  frame_out
  rw [View.read_rep]
  exact View.canon_cons_unit_lit (S := S2048x128) inb_S2048x128_S2048x128_0_0 _ _ (by decide)
end
end Cert.KernelIdeal.Attn
-- ==== Proof.Attn.PathD.lean ====
module
public import proofs.«01_k».proof.Proof.Attn.Step

@[expose] public section
set_option maxRecDepth 16384

/-! One step of the online softmax along path D. -/

noncomputable section
namespace Cert.KernelIdeal.Attn
open Cert.KernelIdeal Cert.KernelIdeal.Gen Idealize.ShloMosaic Idealize.ShloMosaic.TcCoe Idealize.SL.Sem
open Cert.Attention

section
variable (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32)) (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (j : Fin 2048)

set_option maxHeartbeats 3200000 in
/-- Path D: the running maximum after the step. -/
theorem D_max h0 h1 h2 h4 : View.read (Elt Ideal) (View.whole cc0_scratch1) (kernelRun0_D c i arg5 harg5 arg6 harg6 arg7 harg7 arg8 harg8 arg9 harg9 arg10 harg10 T0 T1 x0 x1 x2 x3 x4 xa0 xa1 xa2 xa3 h0 h1 h2 h4).2.1 (ix2 0 j)
    = nm (xa1 (ix2 0 j)) (fun κ => sc x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 1) (b : Fin 512), x = ix2 a b := ⟨x 0, x 1, eq_ix2 x⟩
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    obtain ⟨jv, hjv⟩ := j
    dsimp only at hx1
    subst hx1
    simp only [nm, nl, na, mx, sc]
    try rfl
    done
set_option maxHeartbeats 3200000 in
/-- Path D: the running sum after the step. -/
theorem D_sum h0 h1 h2 h4 : View.read (Elt Ideal) (View.whole cc0_scratch2) (kernelRun0_D c i arg5 harg5 arg6 harg6 arg7 harg7 arg8 harg8 arg9 harg9 arg10 harg10 T0 T1 x0 x1 x2 x3 x4 xa0 xa1 xa2 xa3 h0 h1 h2 h4).2.2.1 (ix2 0 j)
    = nl (xa1 (ix2 0 j)) (xa2 (ix2 0 j)) (fun κ => sc x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 1) (b : Fin 512), x = ix2 a b := ⟨x 0, x 1, eq_ix2 x⟩
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    obtain ⟨jv, hjv⟩ := j
    dsimp only at hx1
    subst hx1
    simp only [nm, nl, na, mx, sc]
    try rfl
    done
set_option maxHeartbeats 3200000 in
/-- Path D: the weighted sum after the step. -/
theorem D_acc (e : Fin 128) h0 h1 h2 h4 : View.read (Elt Ideal) (View.whole cc0_scratch3) (kernelRun0_D c i arg5 harg5 arg6 harg6 arg7 harg7 arg8 harg8 arg9 harg9 arg10 harg10 T0 T1 x0 x1 x2 x3 x4 xa0 xa1 xa2 xa3 h0 h1 h2 h4).2.2.2.1 (ix2 e j)
    = na (xa1 (ix2 0 j)) (xa3 (ix2 e j)) (fun κ => x4 (ix2 e κ)) (fun κ => sc x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 128) (b : Fin 512), x = ix2 a b := ⟨x 0, x 1, eq_ix2 x⟩
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    obtain ⟨jv, hjv⟩ := j
    dsimp only at hx1
    subst hx1
    obtain rfl : e = a := Fin.ext hx0
    simp only [nm, nl, na, mx, sc]
    try rfl
    done

/-- Path D: the queries stay. -/
theorem D_qs h0 h1 h2 h4 : (kernelRun0_D c i arg5 harg5 arg6 harg6 arg7 harg7 arg8 harg8 arg9 harg9 arg10 harg10 T0 T1 x0 x1 x2 x3 x4 xa0 xa1 xa2 xa3 h0 h1 h2 h4).1 = xa0 := rfl
end
end Cert.KernelIdeal.Attn
-- ==== Proof.Attn.PathE.lean ====
module
public import proofs.«01_k».proof.Proof.Attn.Step

@[expose] public section
set_option maxRecDepth 16384

/-! One step of the online softmax along path E. -/

noncomputable section
namespace Cert.KernelIdeal.Attn
open Cert.KernelIdeal Cert.KernelIdeal.Gen Idealize.ShloMosaic Idealize.ShloMosaic.TcCoe Idealize.SL.Sem
open Cert.Attention

section
variable (c : Dev nD) (i : grid0.Coords) (arg5 : Memref sig .tc .vmem S4x64 .f32) (harg5 : arg5.IsWhole) (arg6 : Memref sig .tc .vmem S128x1 .f32) (harg6 : arg6.IsWhole) (arg7 : Memref sig .tc .vmem S1024x128 .bf16) (harg7 : arg7.IsWhole) (arg8 : Memref sig .tc .vmem S512x128 .bf16) (harg8 : arg8.IsWhole) (arg9 : Memref sig .tc .vmem S128x512 .bf16) (harg9 : arg9.IsWhole) (arg10 : Memref sig .tc .vmem S1024x128 .bf16) (harg10 : arg10.IsWhole) (T0 : (S20.Idx → Elt Ideal .i32)) (T1 : (S20.Idx → Elt Ideal .i32)) (x0 : (S4x64.Idx → Elt Ideal .f32)) (x1 : (S128x1.Idx → Elt Ideal .f32)) (x2 : (S1024x128.Idx → Elt Ideal .bf16)) (x3 : (S512x128.Idx → Elt Ideal .bf16)) (x4 : (S128x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (j : Fin 2048)

set_option maxHeartbeats 3200000 in
/-- Path E: the running maximum after the step. -/
theorem E_max {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch1) (kernelRun0_E c i arg5 harg5 arg6 harg6 arg7 harg7 arg8 harg8 arg9 harg9 arg10 harg10 T0 T1 x0 x1 x2 x3 x4 xa0 xa1 xa2 xa3 h0 h1 h2 h4).2.1 (ix2 0 j)
    = nm (xa1 (ix2 0 j)) (fun κ => smk qi ki x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 1) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 xa0 0 (by omega) j b hj]
       clear hj
       obtain ⟨jv, hjv⟩ := j
       dsimp only at hx1
       subst hx1
       simp only [nm, nl, na, mx, sc]
       try rfl
       done)
    | (have hj : j.val % 1024 = 512 + b.val := by omega
       rw [smk_eq hq hk hw0 hw1 x3 xa0 512 (by omega) j b hj]
       clear hj
       obtain ⟨jv, hjv⟩ := j
       dsimp only at hx1
       subst hx1
       simp only [nm, nl, na, mx, sc]
       try rfl
       done)
set_option maxHeartbeats 3200000 in
/-- Path E: the running sum after the step. -/
theorem E_sum {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch2) (kernelRun0_E c i arg5 harg5 arg6 harg6 arg7 harg7 arg8 harg8 arg9 harg9 arg10 harg10 T0 T1 x0 x1 x2 x3 x4 xa0 xa1 xa2 xa3 h0 h1 h2 h4).2.2.1 (ix2 0 j)
    = nl (xa1 (ix2 0 j)) (xa2 (ix2 0 j)) (fun κ => smk qi ki x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 1) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 xa0 0 (by omega) j b hj]
       clear hj
       obtain ⟨jv, hjv⟩ := j
       dsimp only at hx1
       subst hx1
       simp only [nm, nl, na, mx, sc]
       try rfl
       done)
    | (have hj : j.val % 1024 = 512 + b.val := by omega
       rw [smk_eq hq hk hw0 hw1 x3 xa0 512 (by omega) j b hj]
       clear hj
       obtain ⟨jv, hjv⟩ := j
       dsimp only at hx1
       subst hx1
       simp only [nm, nl, na, mx, sc]
       try rfl
       done)
set_option maxHeartbeats 3200000 in
/-- Path E: the weighted sum after the step. -/
theorem E_acc (e : Fin 128) {qi ki : ℕ} (hq : qi < 4) (hk : ki < 8) (hw0 : wrd T0 i = BitVec.ofNat 32 qi) (hw1 : wrd T1 i = BitVec.ofNat 32 ki) h0 h1 h2 h4 : View.read (Elt Ideal) (View.whole cc0_scratch3) (kernelRun0_E c i arg5 harg5 arg6 harg6 arg7 harg7 arg8 harg8 arg9 harg9 arg10 harg10 T0 T1 x0 x1 x2 x3 x4 xa0 xa1 xa2 xa3 h0 h1 h2 h4).2.2.2.1 (ix2 e j)
    = na (xa1 (ix2 0 j)) (xa3 (ix2 e j)) (fun κ => x4 (ix2 e κ)) (fun κ => smk qi ki x3 xa0 κ j) := by
  frame_open
  simp (disch := decide) only [↓ View.readCov_skip, ↓ View.readCov_cons_toLoadRect, ↓ View.readCov_fill]
  frame_out
  canon_tiles x hx
  all_goals
    obtain ⟨a, b, rfl⟩ : ∃ (a : Fin 128) (b : Fin 512), x = ix2 a b := ⟨x 0, x 1, eq_ix2 x⟩
    unfold wrd at hw0 hw1
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
    simp only [View.read_rep, View.read_whole]
    simp only [ix2_0, ix2_1] at hx0 hx1
    have hb := b.isLt
    first
    | (have hj : j.val % 1024 = 0 + b.val := by omega
       rw [smk_eq hq hk hw0 hw1 x3 xa0 0 (by omega) j b hj]
       clear hj
       obtain ⟨jv, hjv⟩ := j
       dsimp only at hx1
       subst hx1
       obtain rfl : e = a := Fin.ext hx0
       simp only [nm, nl, na, mx, sc]
       try rfl
       done)
    | (have hj : j.val % 1024 = 512 + b.val := by omega
       rw [smk_eq hq hk hw0 hw1 x3 xa0 512 (by omega) j b hj]
       clear hj
       obtain ⟨jv, hjv⟩ := j
       dsimp only at hx1
       subst hx1
       obtain rfl : e = a := Fin.ext hx0
       simp only [nm, nl, na, mx, sc]
       try rfl
       done)

/-- Path E: the queries stay. -/
theorem E_qs h0 h1 h2 h4 : (kernelRun0_E c i arg5 harg5 arg6 harg6 arg7 harg7 arg8 harg8 arg9 harg9 arg10 harg10 T0 T1 x0 x1 x2 x3 x4 xa0 xa1 xa2 xa3 h0 h1 h2 h4).1 = xa0 := rfl
end
end Cert.KernelIdeal.Attn
-- ==== Proof.Attn.Traj.lean ====
module
public import proofs.«01_k».proof.Proof.Attn.Score
public import proofs.«01_k».proof.Proof.Attn.PathA
public import proofs.«01_k».proof.Proof.Attn.PathB
public import proofs.«01_k».proof.Proof.Attn.PathC
public import proofs.«01_k».proof.Proof.Attn.PathD
public import proofs.«01_k».proof.Proof.Attn.PathE

@[expose] public section
set_option maxRecDepth 16384

/-! What the scratches hold after each grid point. -/

noncomputable section
namespace Cert.Attention
open Idealize.ShloMosaic

theorem Inv.next {s : ℕ → EReal} {v : Fin 128 → ℕ → ℝ} {p n : ℕ} {m l m1 l1 : EReal} {a a1 : Fin 128 → EReal} (h : Inv s v p n m l a)
    {sb : Fin 512 → EReal} {vb : Fin 128 → Fin 512 → EReal} (hS : sb = blkS s p n)
    (hv : ∀ e, vb e = fun x => ((v e (n + x.val) : ℝ) : EReal)) (h1 : m1 = nm m sb) (h2 : l1 = nl m l sb)
    (h3 : ∀ e, a1 e = na m (a e) (vb e) sb) : Inv s v p (n + 512) m1 l1 a1 := by
  subst hS h1 h2
  have : a1 = fun e => na m (a e) (fun x => ((v e (n + x.val) : ℝ) : EReal)) (blkS s p n) := funext fun e => by rw [h3, hv]
  rw [this]
  exact h.step

theorem Inv.start {s : ℕ → EReal} {v : Fin 128 → ℕ → ℝ} {p n : ℕ} {m1 l1 : EReal} {a1 : Fin 128 → EReal} (hn : n = 0)
    {sb : Fin 512 → EReal} {vb : Fin 128 → Fin 512 → EReal} (hS : sb = blkS s p n)
    (hv : ∀ e, vb e = fun x => ((v e (n + x.val) : ℝ) : EReal)) (h1 : m1 = nm ⊥ sb) (h2 : l1 = nl ⊥ 0 sb)
    (h3 : ∀ e, a1 e = na ⊥ 0 (vb e) sb) : Inv s v p (n + 512) m1 l1 a1 := by
  subst hn hS h1 h2
  have : a1 = fun e => na ⊥ 0 (fun x => ((v e (0 + x.val) : ℝ) : EReal)) (blkS s p 0) := funext fun e => by rw [h3, hv]
  rw [this, Nat.zero_add]
  exact Inv.first s v p

end Cert.Attention

namespace Cert.KernelIdeal.Attn
open Cert.KernelIdeal Cert.KernelIdeal.Gen Idealize.ShloMosaic Idealize.ShloMosaic.TcCoe Idealize.SL.Sem
open Cert.Attention

/-- What the scratches hold once the keys before `n` are done: the stacked queries and, in every column, the running values. -/
def TI (q k : ℕ → ℕ → ℕ → ℕ → EReal) (v : ℕ → ℕ → ℕ → ℕ → ℝ) (Q : S2048x128.Idx → Elt Ideal .bf16) (b h qi n : ℕ) (a0 : S2048x128.Idx → Elt Ideal .bf16)
    (a1 a2 : S1x2048.Idx → Elt Ideal .f32) (a3 : S128x2048.Idx → Elt Ideal .f32) : Prop :=
  a0 = Q ∧ ∀ j : Fin 2048, Inv (fun κ => S q k b (h * 2 + j.val / 1024) (qi * 1024 + j.val % 1024) κ * c2)
    (fun e κ => v b κ h e.val) (qi * 1024 + j.val % 1024) n (a1 (ix2 0 j)) (a2 (ix2 0 j)) (fun e => a3 (ix2 e j))

variable {m : (ℓ : Loc nD τ sig) → Buf (Elt Ideal) ℓ} {ρ : Dev nD → PrngReg} {c : Dev nD} {t : Fin (cfgA 0).N}
variable {q k : ℕ → ℕ → ℕ → ℕ → EReal} {v : ℕ → ℕ → ℕ → ℕ → ℝ} (R : Real4 m c q k v)
variable (prev : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3))

/-- A step's end state has the running values. -/
abbrev Post (q k : ℕ → ℕ → ℕ → ℕ → EReal) (v : ℕ → ℕ → ℕ → ℕ → ℝ) (m : (ℓ : Loc nD τ sig) → Buf (Elt Ideal) ℓ) (ρ : Dev nD → PrngReg) (c : Dev nD) (t : Fin (cfgA 0).N)
    (x : (S1024x128.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (n : ℕ) : Prop :=
  TI q k v (k0_pay4 (F := Ideal) (iblk 0 m ρ c 2 t)) (bT t).val (hT t).val (qT t) n x.2.1 x.2.2.1 x.2.2.2.1 x.2.2.2.2

include R

theorem post_A (q0 : P0_0 0 t) (q1 : ¬P0_1 0 t) : Post q k v m ρ c t (step0 0 m ρ c t prev) (kT t * 512 + 512) := by
  rw [step0_A 0 m ρ c t prev q0 q1]
  unfold Post
  dsimp only
  have hqs := A_qs c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) (hypsR0_A 0 t q0 q1).1 (hypsR0_A 0 t q0 q1).2.1 (hypsR0_A 0 t q0 q1).2.2.1 (hypsR0_A 0 t q0 q1).2.2.2.1
  rw [View.read_whole] at hqs
  refine ⟨hqs, fun j => ?_⟩
  have h1 := A_max c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) j (qT_lt t) (kT_lt t) (words t).1 (words t).2 (hypsR0_A 0 t q0 q1).1 (hypsR0_A 0 t q0 q1).2.1 (hypsR0_A 0 t q0 q1).2.2.1 (hypsR0_A 0 t q0 q1).2.2.2.1
  have h2 := A_sum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) j (qT_lt t) (kT_lt t) (words t).1 (words t).2 (hypsR0_A 0 t q0 q1).1 (hypsR0_A 0 t q0 q1).2.1 (hypsR0_A 0 t q0 q1).2.2.1 (hypsR0_A 0 t q0 q1).2.2.2.1
  have h3 := fun e => A_acc c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) j e (qT_lt t) (kT_lt t) (words t).1 (words t).2 (hypsR0_A 0 t q0 q1).1 (hypsR0_A 0 t q0 q1).2.1 (hypsR0_A 0 t q0 q1).2.2.1 (hypsR0_A 0 t q0 q1).2.2.2.1
  simp only [View.read_whole] at h1 h2 h3
  exact Inv.start (by have h : kT t = 0 := (paths t).1.mp q0; rw [h]) (smk_blk (ρ := ρ) R rfl j) (fun e => v_blk (ρ := ρ) R e) h1 h2 h3

theorem post_B (q0 : ¬P0_0 0 t) (q1 : ¬P0_1 0 t) (q2 : P0_2 0 t) (hp : Post q k v m ρ c t prev (kT t * 512)) : Post q k v m ρ c t (step0 0 m ρ c t prev) (kT t * 512 + 512) := by
  rw [step0_B 0 m ρ c t prev q0 q1 q2]
  unfold Post
  dsimp only
  refine ⟨hp.1, fun j => ?_⟩
  have h1 := B_max c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j (qT_lt t) (kT_lt t) (words t).1 (words t).2 (hypsR0_B 0 t q0 q1 q2).1 (hypsR0_B 0 t q0 q1 q2).2.1 (hypsR0_B 0 t q0 q1 q2).2.2.1 (hypsR0_B 0 t q0 q1 q2).2.2.2.1
  have h2 := B_sum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j (qT_lt t) (kT_lt t) (words t).1 (words t).2 (hypsR0_B 0 t q0 q1 q2).1 (hypsR0_B 0 t q0 q1 q2).2.1 (hypsR0_B 0 t q0 q1 q2).2.2.1 (hypsR0_B 0 t q0 q1 q2).2.2.2.1
  have h3 := fun e => B_acc c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j e (qT_lt t) (kT_lt t) (words t).1 (words t).2 (hypsR0_B 0 t q0 q1 q2).1 (hypsR0_B 0 t q0 q1 q2).2.1 (hypsR0_B 0 t q0 q1 q2).2.2.1 (hypsR0_B 0 t q0 q1 q2).2.2.2.1
  simp only [View.read_whole] at h1 h2 h3
  exact (hp.2 j).next (smk_blk (ρ := ρ) R hp.1 j) (fun e => v_blk (ρ := ρ) R e) h1 h2 h3

theorem post_C (q0 : P0_0 0 t) (q1 : P0_1 0 t) : Post q k v m ρ c t (step0 0 m ρ c t prev) (kT t * 512 + 512) := by
  rw [step0_C 0 m ρ c t prev q0 q1]
  unfold Post
  dsimp only
  have hqs := C_qs c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) (hypsR0_C 0 t q0 q1).1 (hypsR0_C 0 t q0 q1).2.1 (hypsR0_C 0 t q0 q1).2.2.1 (hypsR0_C 0 t q0 q1).2.2.2.1
  rw [View.read_whole] at hqs
  refine ⟨hqs, fun j => ?_⟩
  have h1 := C_max c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) j (hypsR0_C 0 t q0 q1).1 (hypsR0_C 0 t q0 q1).2.1 (hypsR0_C 0 t q0 q1).2.2.1 (hypsR0_C 0 t q0 q1).2.2.2.1
  have h2 := C_sum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) j (hypsR0_C 0 t q0 q1).1 (hypsR0_C 0 t q0 q1).2.1 (hypsR0_C 0 t q0 q1).2.2.1 (hypsR0_C 0 t q0 q1).2.2.2.1
  have h3 := fun e => C_acc c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) j e (hypsR0_C 0 t q0 q1).1 (hypsR0_C 0 t q0 q1).2.1 (hypsR0_C 0 t q0 q1).2.2.1 (hypsR0_C 0 t q0 q1).2.2.2.1
  simp only [View.read_whole] at h1 h2 h3
  exact Inv.start (by have h : kT t = 0 := (paths t).1.mp q0; rw [h]) (sc_blkS (ρ := ρ) R ((paths t).2.1.mp q1) rfl j) (fun e => v_blk (ρ := ρ) R e) h1 h2 h3

theorem post_D (q0 : ¬P0_0 0 t) (q1 : P0_1 0 t) (hp : Post q k v m ρ c t prev (kT t * 512)) : Post q k v m ρ c t (step0 0 m ρ c t prev) (kT t * 512 + 512) := by
  rw [step0_D 0 m ρ c t prev q0 q1]
  unfold Post
  dsimp only
  refine ⟨hp.1, fun j => ?_⟩
  have h1 := D_max c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j (hypsR0_D 0 t q0 q1).1 (hypsR0_D 0 t q0 q1).2.1 (hypsR0_D 0 t q0 q1).2.2.1 (hypsR0_D 0 t q0 q1).2.2.2.1
  have h2 := D_sum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j (hypsR0_D 0 t q0 q1).1 (hypsR0_D 0 t q0 q1).2.1 (hypsR0_D 0 t q0 q1).2.2.1 (hypsR0_D 0 t q0 q1).2.2.2.1
  have h3 := fun e => D_acc c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j e (hypsR0_D 0 t q0 q1).1 (hypsR0_D 0 t q0 q1).2.1 (hypsR0_D 0 t q0 q1).2.2.1 (hypsR0_D 0 t q0 q1).2.2.2.1
  simp only [View.read_whole] at h1 h2 h3
  exact (hp.2 j).next (sc_blkS (ρ := ρ) R ((paths t).2.1.mp q1) hp.1 j) (fun e => v_blk (ρ := ρ) R e) h1 h2 h3

theorem post_E (q0 : ¬P0_0 0 t) (q1 : ¬P0_1 0 t) (q2 : ¬P0_2 0 t) (hp : Post q k v m ρ c t prev (kT t * 512)) : Post q k v m ρ c t (step0 0 m ρ c t prev) (kT t * 512 + 512) := by
  rw [step0_E 0 m ρ c t prev q0 q1 q2]
  unfold Post
  dsimp only
  refine ⟨hp.1, fun j => ?_⟩
  have h1 := E_max c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j (qT_lt t) (kT_lt t) (words t).1 (words t).2 (hypsR0_E 0 t q0 q1 q2).1 (hypsR0_E 0 t q0 q1 q2).2.1 (hypsR0_E 0 t q0 q1 q2).2.2.1 (hypsR0_E 0 t q0 q1 q2).2.2.2.1
  have h2 := E_sum c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j (qT_lt t) (kT_lt t) (words t).1 (words t).2 (hypsR0_E 0 t q0 q1 q2).1 (hypsR0_E 0 t q0 q1 q2).2.1 (hypsR0_E 0 t q0 q1 q2).2.2.1 (hypsR0_E 0 t q0 q1 q2).2.2.2.1
  have h3 := fun e => E_acc c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) prev.2.1 prev.2.2.1 prev.2.2.2.1 prev.2.2.2.2 j e (qT_lt t) (kT_lt t) (words t).1 (words t).2 (hypsR0_E 0 t q0 q1 q2).1 (hypsR0_E 0 t q0 q1 q2).2.1 (hypsR0_E 0 t q0 q1 q2).2.2.1 (hypsR0_E 0 t q0 q1 q2).2.2.2.1
  simp only [View.read_whole] at h1 h2 h3
  exact (hp.2 j).next (smk_blk (ρ := ρ) R hp.1 j) (fun e => v_blk (ρ := ρ) R e) h1 h2 h3

end Cert.KernelIdeal.Attn
-- ==== Proof.Attn.Arr.lean ====
module
public import proofs.«01_k».proof.Proof.Attn.Traj
public import proofs.«01_k».proof.Proof.Attn.OutB
public import Idealize.ShloMosaic.Lib.StableHlo.RunRead

@[expose] public section
set_option maxRecDepth 16384

/-! The attention's array after the run. -/

noncomputable section
namespace Cert.Attention
open Idealize.ShloMosaic

/-- One element of the attention: the difference of the two halves' attentions, normed over the head's lanes. -/
def outv (q k : ℕ → ℕ → ℕ → ℕ → EReal) (v : ℕ → ℕ → ℕ → ℕ → ℝ) (lp : Fin 4 → Fin 64 → EReal) (g : Fin 128 → EReal) (b p h : ℕ) (e : Fin 128) : EReal :=
  nrm (fun d => att (S q k b (h * 2) p) (fun κ => v b κ h d.val) p
    - lamv lp * att (S q k b (h * 2 + 1) p) (fun κ => v b κ h d.val) p) g e

end Cert.Attention

namespace Cert.KernelIdeal.Attn
open Cert.KernelIdeal Cert.KernelIdeal.Gen Idealize.ShloMosaic Idealize.ShloMosaic.TcCoe Idealize.SL.Sem
open Idealize.ShloMosaic.Pipeline (Dat)
open Cert.Attention

theorem steps : ∀ s : ℕ, s < 20 → kiF s ≠ 0 → s ≠ 0 ∧ qiF (s - 1) = qiF s ∧ kiF (s - 1) + 1 = kiF s := by decide

variable {m : (ℓ : Loc nD τ sig) → Buf (Elt Ideal) ℓ} {ρ : Dev nD → PrngReg} {c : Dev nD}
variable {q k : ℕ → ℕ → ℕ → ℕ → EReal} {v : ℕ → ℕ → ℕ → ℕ → ℝ} (R : Real4 m c q k v)

/-- The query block does not change between the steps of one query block. -/
theorem same_q (t t' : Fin (cfgA 0).N) (hb : bT t' = bT t) (hh : hT t' = hT t) (hq : qT t' = qT t) :
    (iblk 0 m ρ c 2 t' : S1024x128.Idx → Elt Ideal .bf16) = iblk 0 m ρ c 2 t := by
  funext i
  obtain ⟨r, l, rfl⟩ : ∃ (r : Fin 1024) (l : Fin 128), i = ix2 r l := ⟨i 0, i 1, eq_ix2 i⟩
  refine (b2 m ρ c t' r l).trans (Eq.trans ?_ (b2 m ρ c t r l).symm)
  refine congrArg (fun i => (qA m c i : EReal) * scl) (ix4_ext ?_ ?_ ?_ rfl)
  · rw [hb]
  · simp only [hq]
  · simp only [hh]

include R

/-- The running values after every grid point. -/
theorem post : ∀ (n : ℕ) (hn : n < (cfgA 0).N), Post q k v m ρ c ⟨n, hn⟩ (traj0 0 m ρ c n hn) (kT ⟨n, hn⟩ * 512 + 512) := by
  intro n
  induction n with
  | zero =>
    intro hn
    have q0 : P0_0 0 ⟨0, hn⟩ := (paths ⟨0, hn⟩).1.mpr rfl
    rw [traj0_eq 0 m ρ c ⟨0, hn⟩]
    by_cases q1 : P0_1 0 ⟨0, hn⟩
    · exact post_C R _ q0 q1
    · exact post_A R _ q0 q1
  | succ n ih =>
    intro hn
    have hn' : n < (cfgA 0).N := Nat.lt_of_succ_lt hn
    rw [traj0_eq 0 m ρ c ⟨n + 1, hn⟩]
    by_cases q0 : P0_0 0 ⟨n + 1, hn⟩
    · by_cases q1 : P0_1 0 ⟨n + 1, hn⟩
      · exact post_C R _ q0 q1
      · exact post_A R _ q0 q1
    · have hk : kiF ((n + 1) % 20) ≠ 0 := fun h => q0 ((paths ⟨n + 1, hn⟩).1.mpr h)
      obtain ⟨s0, s1, s2⟩ := steps ((n + 1) % 20) (Nat.mod_lt _ (by norm_num)) hk
      have hm : n % 20 = (n + 1) % 20 - 1 := by omega
      have hb : bT ⟨n, hn'⟩ = bT ⟨n + 1, hn⟩ := Fin.ext (by simp only [bT]; omega)
      have hh : hT ⟨n, hn'⟩ = hT ⟨n + 1, hn⟩ := Fin.ext (by simp only [hT]; omega)
      have hq : qT ⟨n, hn'⟩ = qT ⟨n + 1, hn⟩ := by simp only [qT]; rw [hm]; exact s1
      have hkk : kT ⟨n, hn'⟩ * 512 + 512 = kT ⟨n + 1, hn⟩ * 512 := by simp only [kT]; rw [hm, ← s2]; ring
      have hp : Post q k v m ρ c ⟨n + 1, hn⟩ (prev0 0 m ρ c ⟨n + 1, hn⟩) (kT ⟨n + 1, hn⟩ * 512) := by
        have e : prev0 0 m ρ c ⟨n + 1, hn⟩ = traj0 0 m ρ c n hn' := by
          unfold prev0
          rw [dif_neg (Nat.succ_ne_zero n)]
          rfl
        have := ih hn'
        unfold Post at this
        rw [e]
        unfold Post
        rw [same_q ⟨n, hn'⟩ ⟨n + 1, hn⟩ hb.symm hh.symm hq.symm, ← hb, ← hh, ← hq, ← hkk]
        exact this
      by_cases q1 : P0_1 0 ⟨n + 1, hn⟩
      · exact post_D R _ q0 q1 hp
      · by_cases q2 : P0_2 0 ⟨n + 1, hn⟩
        · exact post_B R _ q0 q1 q2 hp
        · exact post_E R _ q0 q1 q2 hp

/-- A head's attention from the running values. -/
theorem quot_at (t : Fin (cfgA 0).N) (hn : kT t = 2 * qT t + 1) {x} (hx : Post q k v m ρ c t x (kT t * 512 + 512)) (j : Fin 2048) (d : Fin 128) :
    Ideal.div (x.2.2.2.2 (ix2 d j)) (x.2.2.2.1 (ix2 0 j))
      = att (S q k (bT t).val ((hT t).val * 2 + j.val / 1024) (qT t * 1024 + j.val % 1024)) (fun κ => v (bT t).val κ (hT t).val d.val) (qT t * 1024 + j.val % 1024) := by
  have h1 := qT_lt t
  have h2 := kT_lt t
  exact (hx.2 j).quot (by omega) (by omega) d

/-- The block a last step writes. -/
theorem out_at (t : Fin (cfgA 0).N) (hn : kT t = 2 * qT t + 1) (r : Fin 1024) (e : Fin 128) :
    (traj0 0 m ρ c t.val t.isLt).1 (ix2 r e)
      = outv q k v (fun i d => lA m c (ix2 i d)) (fun e => gA m c (ix1 e)) (bT t).val (qT t * 1024 + r.val) (hT t).val e := by
  have hx := post (ρ := ρ) R t.val t.isLt
  have q0 : ¬P0_0 0 t := fun h => by have := (paths t).1.mp h; change kT t = 0 at this; omega
  have q1 : ¬P0_1 0 t := fun h => by have := (paths t).2.1.mp h; change kT t < 2 * qT t at this; omega
  have q2 : P0_2 0 t := (paths t).2.2.mpr hn
  have hd := quot_at R t hn hx
  rw [traj0_eq 0 m ρ c t, step0_B 0 m ρ c t _ q0 q1 q2] at hd ⊢
  dsimp only at hd ⊢
  have ho := B_out c (crd 0 t) (ms0_0 0 t) (hs0_0 0 t) (ms0_1 0 t) (hs0_1 0 t) (ms0_2 0 t) (hs0_2 0 t) (ms0_3 0 t) (hs0_3 0 t) (ms0_4 0 t) (hs0_4 0 t) (ms0_5 0 t) (hs0_5 0 t) (pinT_0 0) (pinT_1 0) (iblk 0 m ρ c (0 : Fin 6) t) (iblk 0 m ρ c (1 : Fin 6) t) (iblk 0 m ρ c (2 : Fin 6) t) (iblk 0 m ρ c (3 : Fin 6) t) (iblk 0 m ρ c (4 : Fin 6) t) (prev0 0 m ρ c t).2.1 (prev0 0 m ρ c t).2.2.1 (prev0 0 m ρ c t).2.2.2.1 (prev0 0 m ρ c t).2.2.2.2 (hypsR0_B 0 t q0 q1 q2).1 (hypsR0_B 0 t q0 q1 q2).2.1 (hypsR0_B 0 t q0 q1 q2).2.2.1 (hypsR0_B 0 t q0 q1 q2).2.2.2.1
  simp only [View.read_whole] at ho
  rw [ho]
  refine (pay79_at _ _ _ _ r e).trans ?_
  have hr := r.isLt
  have r0 : r.val / 1024 = 0 := by omega
  have r1 : r.val % 1024 = r.val := by omega
  have r2 : (1024 + r.val) / 1024 = 1 := by omega
  have r3 : (1024 + r.val) % 1024 = r.val := by omega
  have hA := fun d => hd ⟨r.val, by omega⟩ d
  have hB := fun d => hd ⟨1024 + r.val, by omega⟩ d
  simp only [r0, r1, r2, r3, Nat.add_zero] at hA hB
  have hl : lamv (fun i d => iblk 0 m ρ c 0 t (ix2 i d)) = lamv (fun i d => lA m c (ix2 i d)) :=
    congrArg lamv (funext fun i => funext fun d => b0 m ρ c t i d)
  have hg : (fun d => (iblk 0 m ρ c 1 t (ix2 d 0) : EReal)) = fun e => gA m c (ix1 e) := funext fun d => b1 m ρ c t d
  unfold outv
  refine (congrArg (fun G => nrm _ G e) hg).trans ?_
  refine congrArg (fun y => nrm y _ e) (funext fun d => ?_)
  refine congr (congrArg HSub.hSub (hA d)) (congr (congrArg HMul.hMul hl) (hB d))

/-- The result array in the arguments. -/
def RES (q k : ℕ → ℕ → ℕ → ℕ → EReal) (v : ℕ → ℕ → ℕ → ℕ → ℝ) (lp : Fin 4 → Fin 64 → EReal) (g : Fin 128 → EReal) : FVec Ideal S16384x1024 .bf16 := fun i =>
  outv q k v lp g ((i 0).val / 4096) ((i 0).val % 4096) ((i 1).val / 128) ⟨(i 1).val % 128, by omega⟩

omit R in
theorem flush_last : ∀ t : Fin (cfgA 0).N, ((cfgA 0).win 5).flush t = true → kT t = 2 * qT t + 1 :=
  (by decide +kernel : ∀ t : Fin grid0.N, _)

theorem final : (dats 0 m ρ 0 c).arrAt 5 (cfgA 0).N = RES q k v (fun i d => lA m c (ix2 i d)) (fun e => gA m c (ix1 e)) := by
  refine (dats 0 m ρ 0 c).arrAt_eq_of_covers 5 _ (by decide +kernel) fun t ht y => ?_
  have hlast := flush_last t ht
  blk_simp
  rw [after0_5]
  obtain ⟨r, e, rfl⟩ : ∃ (r : Fin 1024) (e : Fin 128), y = ix2 r e := ⟨y 0, y 1, eq_ix2 y⟩
  rw [out_at R t hlast]
  have hn : t.val / 160 * 4096 + qT t * 1024 + r.val < 16384 := by have := qT_lt t; have := tlt t; omega
  have hl : t.val / 20 % 8 * 128 + e.val < 1024 := by omega
  have ee : ((View.whole main_v13).slice (((cfgA 0).win 5).rect t)).emb (ix2 r e)
      = ix2 (⟨t.val / 160 * 4096 + qT t * 1024 + r.val, hn⟩ : Fin 16384) (⟨t.val / 20 % 8 * 128 + e.val, hl⟩ : Fin 1024) := by
    blk_ext [idx t]
    all_goals (have := qT_lt t; have := tlt t; simp only [qT] at *; omega)
  refine Eq.trans ?_ (congrArg (RES q k v _ _) ee).symm
  unfold RES
  have hq4 := qT_lt t
  have hr := r.isLt
  have he := e.isLt
  have e1 : (t.val / 160 * 4096 + qT t * 1024 + r.val) / 4096 = (bT t).val := by simp only [bT]; omega
  have e2 : (t.val / 160 * 4096 + qT t * 1024 + r.val) % 4096 = qT t * 1024 + r.val := by omega
  have e3 : (t.val / 20 % 8 * 128 + e.val) / 128 = (hT t).val := by simp only [hT]; omega
  have e4 : (t.val / 20 % 8 * 128 + e.val) % 128 = e.val := by omega
  simp only [ix2_0, ix2_1, e1, e2, e3, e4]
end Cert.KernelIdeal.Attn
-- ==== Proof.Attn.Fin.lean ====
module
public import proofs.«01_k».proof.Defs
public import proofs.«01_k».proof.Proof.Attn.Arr
public import Idealize.ShloMosaic.Lib.ReduceAll
public import Idealize.ShloMosaic.Lib.KernelVsHost
@[expose] public section
set_option maxRecDepth 16384

/-! The precondition, as numbers: every value and λ parameter is finite. -/

noncomputable section
namespace Cert.Attention
open Idealize.ShloMosaic Idealize.ShloMosaic.TcCoe

/-- The side conditions of the precondition's operations. -/
theorem preFacts : Cert.Pre_finite.Facts where
  bcast_S_S4x4096x8x128 := by decide
  reducesTo_S4x4096x8x128_S_d0_1_2_3 := by decide
  h_S_ := by decide
  bcast_S_S4x64 := by decide
  reducesTo_S4x64_S_d0_1 := by decide

/-- An extended real below infinity in size is a number. -/
theorem real_of (x : Ideal .f32) (h : FloatOps.cmpf .olt (FloatOps.hostAbsf x) (FloatOps.ofBits (F := Ideal) .f32 0x7F800000#32) = 1#1) :
    (x : EReal) = ((EReal.toReal x : ℝ) : EReal) := by
  rw [← Ideal.xori_weird_eq_hostAbsf_olt_inf] at h
  have hx : ¬((x : EReal) = ⊤ ∨ (x : EReal) = ⊥) := fun hh => by
    change IntOp.xori (BitVec.ofBool (decide ((x : EReal) = ⊤ ∨ (x : EReal) = ⊥))) 1#1 = 1#1 at h
    rw [decide_eq_true hh] at h
    exact absurd h (by decide)
  rw [not_or] at hx
  exact (EReal.coe_toReal hx.1 hx.2).symm

/-- An array whose test holds throughout has numbers only. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf x) (broadcastInDim s ![] hb (constant (F := Ideal) Cert.Pre_finite.S_ .f32 0x7F800000#32)))
      (constantI Cert.Pre_finite.S_ 1 1#1) hr hu j = 1#1) (i : s.Idx) : (x i : EReal) = ((EReal.toReal (x i) : ℝ) : EReal) := by
  haveI : Subsingleton Cert.Pre_finite.S_.Idx := ⟨fun a b => funext fun k => k.elim0⟩
  exact real_of _ (Host.reduce_andi_all _ _ hr hu j e i)

/-- The precondition says so of the values and of λ's vectors. -/
theorem pre_real [Cert.Pre_finite.Facts] (q k : FVec Ideal Cert.Pre_finite.S4x4096x16x64 .f32) (v : FVec Ideal Cert.Pre_finite.S4x4096x8x128 .f32)
    (lp : FVec Ideal Cert.Pre_finite.S4x64 .f32) (g : FVec Ideal Cert.Pre_finite.S128 .f32)
    (h : Cert.Pre_finite.fn (F := Ideal) q k v lp g = fun _ => 1#1) :
    (∀ i, (v i : EReal) = ((EReal.toReal (v i) : ℝ) : EReal)) ∧ ∀ i, (lp i : EReal) = ((EReal.toReal (lp i) : ℝ) : EReal) := by
  have e := congrFun h ix0
  unfold Cert.Pre_finite.fn at e
  dsimp only at e
  obtain ⟨ev, el⟩ := IntOp.andi_eq_one.mp e
  exact ⟨all_real v _ _ _ _ ev, all_real lp _ _ _ _ el⟩

/-- An array's entries, by position. -/
def ent {n0 n1 n2 n3 : ℕ} (x : FVec Ideal ⟨4, ![n0, n1, n2, n3]⟩ .f32) (a b c d : ℕ) : EReal :=
  if h : (a < n0 ∧ b < n1) ∧ c < n2 ∧ d < n3 then x (ix4 ⟨a, h.1.1⟩ ⟨b, h.1.2⟩ ⟨c, h.2.1⟩ ⟨d, h.2.2⟩) else 0

theorem ent_at {n0 n1 n2 n3 : ℕ} (x : FVec Ideal ⟨4, ![n0, n1, n2, n3]⟩ .f32) (a : Fin n0) (b : Fin n1) (c : Fin n2) (d : Fin n3) :
    (x (ix4 a b c d) : EReal) = ent x a.val b.val c.val d.val := by
  unfold ent
  rw [dif_pos ⟨⟨a.isLt, b.isLt⟩, c.isLt, d.isLt⟩]

/-- An array's numbers, by position. -/
def num {n0 n1 n2 n3 : ℕ} (x : FVec Ideal ⟨4, ![n0, n1, n2, n3]⟩ .f32) (a b c d : ℕ) : ℝ :=
  if h : (a < n0 ∧ b < n1) ∧ c < n2 ∧ d < n3 then EReal.toReal (x (ix4 ⟨a, h.1.1⟩ ⟨b, h.1.2⟩ ⟨c, h.2.1⟩ ⟨d, h.2.2⟩)) else 0

theorem num_at {n0 n1 n2 n3 : ℕ} (x : FVec Ideal ⟨4, ![n0, n1, n2, n3]⟩ .f32) (hx : ∀ i, (x i : EReal) = ((EReal.toReal (x i) : ℝ) : EReal))
    (a : Fin n0) (b : Fin n1) (c : Fin n2) (d : Fin n3) : (x (ix4 a b c d) : EReal) = ((num x a.val b.val c.val d.val : ℝ) : EReal) := by
  unfold num
  rw [dif_pos ⟨⟨a.isLt, b.isLt⟩, c.isLt, d.isLt⟩]
  exact hx _

/-- λ is a number. -/
theorem lam_real (x : Fin 4 → Fin 64 → EReal) (h : ∀ i d, x i d = ((EReal.toReal (x i d) : ℝ) : EReal)) : ∃ l : ℝ, lamv x = (l : EReal) := by
  obtain ⟨r, hr⟩ := ofBits_init
  have hs : ∀ i j : Fin 4, (∑ d, x i d * x j d) = ((∑ d, EReal.toReal (x i d) * EReal.toReal (x j d) : ℝ) : EReal) := fun i j => by
    rw [coe_sum]
    refine Finset.sum_congr rfl fun d _ => ?_
    rw [EReal.coe_mul, ← h, ← h]
  unfold lamv
  rw [hs, hs, hr, Ideal.exp_coe, Ideal.exp_coe, ← EReal.coe_sub, ← EReal.coe_add]
  exact ⟨_, rfl⟩

end Cert.Attention
-- ==== Proof.Attn.Ref.lean ====
module
public import proofs.«01_k».proof.Proof.Gen.ReferenceIdeal.Run
public import proofs.«01_k».proof.Proof.Attn.OutB
public import proofs.«01_k».proof.Proof.Attn.Math

@[expose] public section
set_option maxRecDepth 16384

/-! The attention's reference, stage by stage, at one element. -/

noncomputable section
namespace Cert.ReferenceIdeal.Attn
open Cert.ReferenceIdeal Cert.ReferenceIdeal.Gen Idealize.ShloMosaic Idealize.ShloMosaic.TcCoe Idealize.SL.Sem
open Cert.Attention

variable (q k : FVec Ideal S4x4096x16x64 .f32) (v : FVec Ideal S4x4096x8x128 .f32) (lp : FVec Ideal S4x64 .f32)
  (g : FVec Ideal S128 .f32)

/-- The masked scores. -/
def rS : FVec Ideal S4x16x4096x4096 .f32 :=
  select (broadcastInDim S4x16x4096x4096 ![0, 1, 2, 3] bcast_S1x1x4096x4096_S4x16x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))
    (mulf (Host.dotGeneral dot_S4x4096x16x64_S4x4096x16x64_S4x16x4096x4096_3_3_1_1_02_02 none q k) (broadcastInDim S4x16x4096x4096 ![] bcast_S_S4x16x4096x4096 (constant S_ .f32 0x3E000000#32)))
    (broadcastInDim S4x16x4096x4096 ![] bcast_S_S4x16x4096x4096 (id (constant S_ .f32 0xFF800000#32)))

/-- Each row's largest score. -/
def rM (s : FVec Ideal S4x16x4096x4096 .f32) : FVec Ideal S4x16x4096 .f32 :=
  maximumf (broadcastInDim S4x16x4096 ![] bcast_S_S4x16x4096 (constant S_ .f32 0xFF800000#32)) (Host.reduce FloatOps.maximumf s (constant S_ .f32 0xFF800000#32) reducesTo_S4x16x4096x4096_S4x16x4096_d3 h_S_)

/-- The exponentials relative to it. -/
def rE (s : FVec Ideal S4x16x4096x4096 .f32) (mx : FVec Ideal S4x16x4096 .f32) : FVec Ideal S4x16x4096x4096 .f32 :=
  Host.exp (subf s (broadcastInDim S4x16x4096x4096 ![0, 1, 2, 3] bcast_S4x16x4096x1_S4x16x4096x4096_0_1_2_3 (broadcastInDim S4x16x4096x1 ![0, 1, 2] bcast_S4x16x4096_S4x16x4096x1_0_1_2 mx)))

/-- The weights. -/
def rP (e : FVec Ideal S4x16x4096x4096 .f32) : FVec Ideal S4x16x4096x4096 .f32 :=
  Host.divf e (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd e (constant S_ .f32 0x00000000#32) reducesTo_S4x16x4096x4096_S4x16x4096_d3 h_S_)))

/-- The second softmax's weight. -/
def rL : FVec Ideal S_ .f32 :=
  addf (subf (Host.exp (Host.reduceAdd (mulf (shapeCast _ (extractStridedSlice S1x64 ![0, 0] lp slices_S4x64_S1x64_0_0) shapeCasts_S1x64_S64) (shapeCast _ (extractStridedSlice S1x64 ![1, 0] lp slices_S4x64_S1x64_1_0) shapeCasts_S1x64_S64)) (constant S_ .f32 0x00000000#32) reducesTo_S64_S_d0 h_S_)) (Host.exp (Host.reduceAdd (mulf (shapeCast _ (extractStridedSlice S1x64 ![2, 0] lp slices_S4x64_S1x64_2_0) shapeCasts_S1x64_S64) (shapeCast _ (extractStridedSlice S1x64 ![3, 0] lp slices_S4x64_S1x64_3_0) shapeCasts_S1x64_S64)) (constant S_ .f32 0x00000000#32) reducesTo_S64_S_d0 h_S_))) (constant S_ .f32 0x3E4CCCCD#32)

/-- The difference of the two halves' weights. -/
def rA (p : FVec Ideal S4x16x4096x4096 .f32) (lam : FVec Ideal S_ .f32) : FVec Ideal S4x8x4096x4096 .f32 :=
  subf (shapeCast _ (extractStridedSlice S4x8x1x4096x4096 ![0, 0, 0, 0, 0] (shapeCast _ p shapeCasts_S4x16x4096x4096_S4x8x2x4096x4096) slices_S4x8x2x4096x4096_S4x8x1x4096x4096_0_0_0_0_0) shapeCasts_S4x8x1x4096x4096_S4x8x4096x4096)
    (mulf (broadcastInDim S4x8x4096x4096 ![] bcast_S_S4x8x4096x4096 lam) (shapeCast _ (extractStridedSlice S4x8x1x4096x4096 ![0, 0, 1, 0, 0] (shapeCast _ p shapeCasts_S4x16x4096x4096_S4x8x2x4096x4096) slices_S4x8x2x4096x4096_S4x8x1x4096x4096_0_0_1_0_0) shapeCasts_S4x8x1x4096x4096_S4x8x4096x4096))

/-- The values, weighted. -/
def rO (a : FVec Ideal S4x8x4096x4096 .f32) : FVec Ideal S4x4096x8x128 .f32 :=
  transpose S4x4096x8x128 [0, 3, 1, 2] (Host.dotGeneral dot_S4x4096x8x128_S4x8x4096x4096_S4x8x128x4096_1_3_3_2_02_01 none v a) transposes_S4x8x128x4096_S4x4096x8x128_0_3_1_2

/-- The norm over a head's lanes, weighted and scaled. -/
def rF (o : FVec Ideal S4x4096x8x128 .f32) : FVec Ideal S4x4096x8x128 .f32 :=
  mulf (mulf (mulf o (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf o o) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 g))) (broadcastInDim S4x4096x8x128 ![] bcast_S_S4x4096x8x128 (constant S_ .f32 0x3F4CCCCD#32))

variable (b : Fin 4) (h : Fin 16) (p : Fin 4096)

/-- A score. -/
def score (κ : Fin 4096) : EReal := (∑ d : Fin 64, q (ix4 b p h d) * k (ix4 b κ h d)) * Ideal.ofBits FTy.f32 0x3E000000#32

theorem rS_at (κ : Fin 4096) : rS q k (ix4 b h p κ) = if κ.val ≤ p.val then score q k b h p κ else ⊥ := by
  pointwise [rS]
  have hc : IntOp.cmpi CmpIPredicate.sle (BitVec.ofNat 32 κ.val) (BitVec.ofNat 32 p.val) = if κ.val ≤ p.val then 1#1 else 0#1 := by
    have := κ.isLt; have := p.isLt
    have e : ∀ x : Nat, x < 4096 → (BitVec.ofNat 32 x).toInt = (x : Int) := fun x hx => by
      rw [BitVec.toInt_eq_toNat_of_lt (by rw [BitVec.toNat_ofNat]; omega), BitVec.toNat_ofNat, Nat.mod_eq_of_lt (by omega)]
    simp only [IntOp.cmpi, BitVec.sle, e _ κ.isLt, e _ p.isLt, Int.ofNat_le]
    by_cases hh : κ.val ≤ p.val <;> simp [hh]
  rw [hc]
  by_cases hh : κ.val ≤ p.val
  · rw [if_pos hh, if_pos hh]; rfl
  · rw [if_neg hh, if_neg hh]; exact ofBits_neg_inf

/-- A host maximum over the last of four axes is a fold over that axis. -/
theorem max_last {n0 n1 n2 n3 : ℕ} {t u : Shape} (x : (⟨4, ![n0, n1, n2, n3]⟩ : Shape).Idx → EReal) (init : u.Idx → EReal)
    (hr : (⟨4, ![n0, n1, n2, n3]⟩ : Shape).ReducesTo [3] t) (hu : 0 < u.numel) (j : t.Idx) :
    Host.reduce (FloatOps.maximumf (F := Ideal) (φ := .f32)) x init hr hu j
      = Finset.fold max (init (Shape.Idx.first hu)) (fun k : Fin n3 => x (ix4 ⟨(j ⟨0, hr.lt_r4_a3_0⟩).val, Shape.coordLt (j ⟨0, hr.lt_r4_a3_0⟩) hr.size_r4_a3_0⟩
          ⟨(j ⟨1, hr.lt_r4_a3_1⟩).val, Shape.coordLt (j ⟨1, hr.lt_r4_a3_1⟩) hr.size_r4_a3_1⟩
          ⟨(j ⟨2, hr.lt_r4_a3_2⟩).val, Shape.coordLt (j ⟨2, hr.lt_r4_a3_2⟩) hr.size_r4_a3_2⟩ k)) Finset.univ := by
  rw [Host.reduce_eq_fold]
  exact hr.fold_fiber_r4_a3 j _ _ x

theorem max_bot_left (x y : EReal) (hx : x = ⊥) : max x y = y := by rw [hx]; exact max_eq_right bot_le

theorem rM_at (s : FVec Ideal S4x16x4096x4096 .f32) : rM s (ix3 b h p) = Finset.fold max ⊥ (fun κ => s (ix4 b h p κ)) Finset.univ := by
  have e := max_last s (constant (F := Ideal) S_ .f32 0xFF800000#32) reducesTo_S4x16x4096x4096_S4x16x4096_d3 h_S_ (ix3 b h p)
  have hi : constant (F := Ideal) S_ .f32 0xFF800000#32 (Shape.Idx.first h_S_) = ⊥ := ofBits_neg_inf
  rw [hi] at e
  have e2 : rM s (ix3 b h p) = max (constant (F := Ideal) S_ .f32 0xFF800000#32 ix0) (Host.reduce (FloatOps.maximumf (F := Ideal) (φ := .f32)) s (constant (F := Ideal) S_ .f32 0xFF800000#32) reducesTo_S4x16x4096x4096_S4x16x4096_d3 h_S_ (ix3 b h p)) := by
    unfold rM
    rw [maximumf_apply]
    rfl
  rw [e2, e]
  exact max_bot_left _ _ ofBits_neg_inf

theorem rP_at (s : FVec Ideal S4x16x4096x4096 .f32) (mx : FVec Ideal S4x16x4096 .f32) (κ : Fin 4096) : rP (rE s mx) (ix4 b h p κ)
    = Ideal.div (Ideal.exp (s (ix4 b h p κ) - mx (ix3 b h p))) (∑ x, Ideal.exp (s (ix4 b h p x) - mx (ix3 b h p))) := by
  pointwise [rP, rE]

theorem rL_at : rL lp ix0 = lamv (fun i d => lp (ix2 i d)) := by
  pointwise [rL]
  rfl

theorem rA_at (w : FVec Ideal S4x16x4096x4096 .f32) (lam : FVec Ideal S_ .f32) (n : Fin 8) (κ : Fin 4096) : rA w lam (ix4 b n p κ)
    = w (ix4 b ⟨n.val * 2, by omega⟩ p κ) - lam ix0 * w (ix4 b ⟨n.val * 2 + 1, by omega⟩ p κ) := by
  pointwise [rA]

theorem rO_at (a : FVec Ideal S4x8x4096x4096 .f32) (n : Fin 8) (e : Fin 128) : rO v a (ix4 b p n e)
    = ∑ κ : Fin 4096, v (ix4 b κ n e) * a (ix4 b n p κ) := by
  pointwise [rO]

theorem rF_at (o : FVec Ideal S4x4096x8x128 .f32) (n : Fin 8) (e : Fin 128) : rF g o (ix4 b p n e)
    = nrm (fun e => o (ix4 b p n e)) (fun e => g (ix1 e)) e := by
  pointwise [rF]
  rfl

variable (m : (ℓ : Loc nD τ sig) → Buf (Elt Ideal) ℓ)

/-- The reference's result in these stages. -/
theorem res_eq (c : Dev nD) : Value.res_main_v64 m c
    = truncf .bf16 (shapeCast S16384x1024 (rF (m ((c.tc : Thread nD τ).loc main_arg4))
        (rO (m ((c.tc : Thread nD τ).loc main_arg2))
          (rA (rP (rE (rS (m ((c.tc : Thread nD τ).loc main_arg0)) (m ((c.tc : Thread nD τ).loc main_arg1))) (rM (rS (m ((c.tc : Thread nD τ).loc main_arg0)) (m ((c.tc : Thread nD τ).loc main_arg1))))))
            (rL (m ((c.tc : Thread nD τ).loc main_arg3))))))
        shapeCasts_S4x4096x8x128_S16384x1024) bitsLt_bf16_f32 := rfl

/-- Flattening the axes, at an element. -/
theorem cast_at (y : FVec Ideal S4x4096x8x128 .f32) (n : Fin 16384) (j : Fin 1024) :
    (truncf .bf16 (shapeCast S16384x1024 y shapeCasts_S4x4096x8x128_S16384x1024) bitsLt_bf16_f32 : FVec Ideal S16384x1024 .bf16) (ix2 n j)
      = y (ix4 ⟨n / 4096, by omega⟩ ⟨n % 4096, by omega⟩ ⟨j / 128, by omega⟩ ⟨j % 128, by omega⟩) := by
  pointwise
end Cert.ReferenceIdeal.Attn
-- ==== Proof.Attn.Norm.lean ====
module
public import proofs.«01_k».proof.Proof.Attn.Math
public import proofs.«01_k».proof.Proof.Attn.OutB

@[expose] public section

/-! The two sides before the norm are equal where every softmax is a number; where one is not, both sides are infinite in a lane or zero in all,
and the norm of such a row is zero. -/

noncomputable section
namespace Cert.Attention
open Idealize.ShloMosaic

theorem ofBits_lanes : Ideal.ofBits FTy.f32 0x43000000#32 = ((128 : ℝ) : EReal) := by
  simp [Ideal.ofBits, Ideal.ieee]
  norm_num
  rw [← EReal.coe_mul]
  norm_num

theorem ofBits_eps : ∃ r : ℝ, Ideal.ofBits FTy.f32 0x358637BD#32 = (r : EReal) := by
  simp [Ideal.ofBits, Ideal.ieee]
  exact ⟨_, rfl⟩

/-- A value that is zero or infinite. -/
def Ext (x : EReal) : Prop := x = 0 ∨ x = ⊤ ∨ x = ⊥

theorem Ext.add {x y : EReal} (hx : Ext x) (hy : Ext y) : Ext (x + y) := by
  rcases hx with rfl | rfl | rfl <;> rcases hy with rfl | rfl | rfl <;> simp [Ext]

theorem Ext.sum {ι : Type} (A : Finset ι) (f : ι → EReal) (h : ∀ i, Ext (f i)) : Ext (∑ i ∈ A, f i) := by
  classical
  induction A using Finset.induction_on with
  | empty => exact Or.inl rfl
  | insert a A ha ih => rw [Finset.sum_insert ha]; exact (h a).add ih

theorem Ext.mul {I : EReal} (hI : I = ⊤ ∨ I = ⊥) (r : ℝ) : Ext ((r : EReal) * I) := by
  rcases lt_trichotomy r 0 with h | h | h <;> rcases hI with rfl | rfl
  · exact Or.inr (Or.inr (EReal.coe_mul_top_of_neg h))
  · exact Or.inr (Or.inl (EReal.coe_mul_bot_of_neg h))
  · rw [h, EReal.coe_zero, zero_mul]; exact Or.inl rfl
  · rw [h, EReal.coe_zero, zero_mul]; exact Or.inl rfl
  · exact Or.inr (Or.inl (EReal.coe_mul_top_of_pos h))
  · exact Or.inr (Or.inr (EReal.coe_mul_bot_of_pos h))

theorem sq_nonneg' (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

theorem nrm_of_zero {y w : Fin 128 → EReal} {e : Fin 128} (h : y e = 0) : nrm y w e = 0 := by
  unfold nrm
  rw [h, zero_mul, zero_mul, zero_mul]

theorem nrm_of_inf {y w : Fin 128 → EReal} {e : Fin 128} (d : Fin 128) (h : y d = ⊤ ∨ y d = ⊥) : nrm y w e = 0 := by
  have hd : y d * y d = ⊤ := by
    rcases h with h | h <;> rw [h]
    · exact EReal.top_mul_top
    · exact EReal.bot_mul_bot
  have hs : (∑ d, y d * y d) = ⊤ := by
    refine top_le_iff.mp (hd ▸ Finset.single_le_sum (f := fun d => y d * y d) (fun i _ => sq_nonneg' (y i)) (Finset.mem_univ d))
  obtain ⟨r, hr⟩ := ofBits_eps
  have hdiv : Ideal.div ⊤ ((128 : ℝ) : EReal) = ⊤ := by
    rw [Ideal.div_coe (by norm_num)]
    exact EReal.top_mul_coe_of_pos (by norm_num)
  have hq : Ideal.rsqrt ⊤ = 0 := rfl
  unfold nrm
  rw [hs, ofBits_lanes, hr, hdiv, EReal.top_add_coe, hq, mul_zero, zero_mul, zero_mul]

/-- A row of zeros and infinities. -/
theorem nrm_of_ext {y w : Fin 128 → EReal} (h : ∀ d, Ext (y d)) (e : Fin 128) : nrm y w e = 0 := by
  rcases h e with h | h
  · exact nrm_of_zero h
  · exact nrm_of_inf e h

/-- The difference of two weighted sums, normed, is the sum weighted by the difference, normed. -/
theorem nrm_diff (u1 u2 : ℕ → EReal) (p : ℕ) (v : Fin 128 → ℕ → ℝ) (lam : ℝ) (w : Fin 128 → EReal) (e : Fin 128) :
    nrm (fun d => ∑ κ : Fin 4096, ((v d κ.val : ℝ) : EReal) * (prob u1 p κ.val - (lam : EReal) * prob u2 p κ.val)) w e
      = nrm (fun d => att u1 (v d) p - (lam : EReal) * att u2 (v d) p) w e := by
  have key : ∀ I : EReal, (I = ⊤ ∨ I = ⊥) → (∀ κ < 4096, prob u1 p κ - (lam : EReal) * prob u2 p κ = I)
      → (∀ d, att u1 (v d) p - (lam : EReal) * att u2 (v d) p = I) →
      nrm (fun d => ∑ κ : Fin 4096, ((v d κ.val : ℝ) : EReal) * (prob u1 p κ.val - (lam : EReal) * prob u2 p κ.val)) w e
        = nrm (fun d => att u1 (v d) p - (lam : EReal) * att u2 (v d) p) w e := fun I hI hp ha => by
    rw [nrm_of_ext (fun d => Ext.sum _ _ fun κ => by rw [hp κ.val κ.isLt]; exact Ext.mul hI _) e,
      nrm_of_inf e (by rw [ha e]; exact hI)]
  rcases row_cases u1 p with ⟨w1, h1, a1⟩ | ⟨h1, a1⟩
  · rcases row_cases u2 p with ⟨w2, h2, a2⟩ | ⟨h2, a2⟩
    · refine congrArg (fun y => nrm y w e) (funext fun d => ?_)
      rw [a1, a2, ← EReal.coe_mul, ← EReal.coe_sub, Finset.mul_sum, ← Finset.sum_sub_distrib, Finset.sum_range, coe_sum]
      refine Finset.sum_congr rfl fun κ _ => ?_
      rw [h1 κ.val κ.isLt, h2 κ.val κ.isLt, ← EReal.coe_mul, ← EReal.coe_sub, ← EReal.coe_mul]
      congr 1
      ring
    · rcases lt_trichotomy lam 0 with h | h | h
      · refine key ⊥ (Or.inr rfl) (fun κ hκ => ?_) fun d => ?_
        · rw [h2 κ hκ, EReal.coe_mul_bot_of_neg h, sub_top']
        · rw [a2, EReal.coe_mul_bot_of_neg h, sub_top']
      · refine congrArg (fun y => nrm y w e) (funext fun d => ?_)
        rw [a1, h, EReal.coe_zero, zero_mul, sub_zero, Finset.sum_range, coe_sum]
        refine Finset.sum_congr rfl fun κ _ => ?_
        rw [h1 κ.val κ.isLt, zero_mul, sub_zero, ← EReal.coe_mul]
      · refine key ⊤ (Or.inl rfl) (fun κ hκ => ?_) fun d => ?_
        · rw [h1 κ hκ, h2 κ hκ, EReal.coe_mul_bot_of_pos h, EReal.coe_sub_bot]
        · rw [a1, a2, EReal.coe_mul_bot_of_pos h, EReal.coe_sub_bot]
  · refine key ⊥ (Or.inr rfl) (fun κ hκ => ?_) fun d => ?_
    · rw [h1 κ hκ, EReal.bot_sub]
    · rw [a1, EReal.bot_sub]

end Cert.Attention
-- ==== Proof.Attn.RefVal.lean ====
module
public import proofs.«01_k».proof.Proof.Attn.Ref
public import proofs.«01_k».proof.Proof.Attn.Arr
public import proofs.«01_k».proof.Proof.Attn.Norm
@[expose] public section
set_option maxRecDepth 16384

/-! The reference's result, for values that are numbers. -/

noncomputable section
namespace Cert.ReferenceIdeal.Attn
open Cert.ReferenceIdeal Cert.ReferenceIdeal.Gen Idealize.ShloMosaic Idealize.ShloMosaic.TcCoe Idealize.SL.Sem
open Cert.Attention

variable {q k : FVec Ideal S4x4096x16x64 .f32} {v : FVec Ideal S4x4096x8x128 .f32} {lp : FVec Ideal S4x64 .f32}
  {g : FVec Ideal S128 .f32} {qr kr : ℕ → ℕ → ℕ → ℕ → EReal} {vr : ℕ → ℕ → ℕ → ℕ → ℝ}

/-- A row of masked scores. -/
theorem rS_row (hq : ∀ (b : Fin 4) (p : Fin 4096) (h : Fin 16) (d : Fin 64), (q (ix4 b p h d) : EReal) = qr b.val p.val h.val d.val)
    (hk : ∀ (b : Fin 4) (p : Fin 4096) (h : Fin 16) (d : Fin 64), (k (ix4 b p h d) : EReal) = kr b.val p.val h.val d.val)
    (b : Fin 4) (h : Fin 16) (p κ : Fin 4096) : rS q k (ix4 b h p κ) = rowS (S qr kr b.val h.val p.val) p.val κ := by
  rw [rS_at]
  unfold rowS
  refine ite_congr rfl (fun _ => ?_) fun _ => rfl
  unfold score S
  rw [ofBits_eighth]
  refine congrArg (fun y : EReal => y * ((1 / 8 : ℝ) : EReal)) (Finset.sum_congr rfl fun d _ => ?_)
  rw [← hq b p h d, ← hk b κ h d]

/-- A softmax weight. -/
theorem rP_row (s : FVec Ideal S4x16x4096x4096 .f32) (b : Fin 4) (h : Fin 16) (p κ : Fin 4096) (f : ℕ → EReal)
    (hs : ∀ x : Fin 4096, s (ix4 b h p x) = rowS f p.val x) : rP (rE s (rM s)) (ix4 b h p κ) = prob f p.val κ.val := by
  have hm : rM s (ix3 b h p) = smax f p.val 4096 := by
    rw [rM_at, ← row_max]
    exact congrArg (fun F : Fin 4096 → EReal => Finset.fold max ⊥ F Finset.univ) (funext hs)
  rw [rP_at, hm]
  simp only [hs]
  exact softmax_eq f p.val κ

/-- One element of the reference's result. -/
theorem ref_at (hq : ∀ (b : Fin 4) (p : Fin 4096) (h : Fin 16) (d : Fin 64), (q (ix4 b p h d) : EReal) = qr b.val p.val h.val d.val)
    (hk : ∀ (b : Fin 4) (p : Fin 4096) (h : Fin 16) (d : Fin 64), (k (ix4 b p h d) : EReal) = kr b.val p.val h.val d.val)
    (hv : ∀ (b : Fin 4) (p : Fin 4096) (h : Fin 8) (d : Fin 128), (v (ix4 b p h d) : EReal) = ((vr b.val p.val h.val d.val : ℝ) : EReal))
    (hl : ∃ l : ℝ, lamv (fun i d => lp (ix2 i d)) = (l : EReal)) (b : Fin 4) (p : Fin 4096) (n : Fin 8) (e : Fin 128) :
    rF g (rO v (rA (rP (rE (rS q k) (rM (rS q k)))) (rL lp))) (ix4 b p n e)
      = outv qr kr vr (fun i d => lp (ix2 i d)) (fun e => g (ix1 e)) b.val p.val n.val e := by
  obtain ⟨l, hl⟩ := hl
  rw [rF_at]
  unfold outv
  rw [hl]
  refine Eq.trans (congrArg (fun y => nrm y (fun e => (g (ix1 e) : EReal)) e) (funext fun d => ?_))
    (nrm_diff _ _ p.val (fun d κ => vr b.val κ n.val d.val) l _ e)
  rw [rO_at]
  refine Finset.sum_congr rfl fun κ _ => ?_
  rw [rA_at, rL_at, hl, rP_row _ b _ p κ _ (rS_row hq hk b _ p), rP_row _ b _ p κ _ (rS_row hq hk b _ p), hv]
end Cert.ReferenceIdeal.Attn
-- ==== Proof.Attn.Claim.lean ====
module
public import proofs.«01_k».proof.Proof.Attn.Fin
public import proofs.«01_k».proof.Proof.Attn.RefVal
@[expose] public section
set_option maxRecDepth 16384

/-! The attention's claims. -/

noncomputable section
namespace Cert.Attention
open Idealize.ShloMosaic Idealize.ShloMosaic.TcCoe Idealize.SL.Sem

attribute [local instance] Cert.KernelIdeal.Gen.facts Cert.ReferenceIdeal.Gen.facts preFacts

/-- What the precondition gives: the values and λ are numbers. -/
theorem pre_nums (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.KernelIdeal.Attn.Real4 m c (ent (Cert.KernelIdeal.Attn.qA m c)) (ent (Cert.KernelIdeal.Attn.kA m c)) (num (Cert.KernelIdeal.Attn.vA m c))
      ∧ ∃ l : ℝ, lamv (fun i d => Cert.KernelIdeal.Attn.lA m c (ix2 i d)) = (l : EReal) := by
  obtain ⟨hv, hl⟩ := pre_real (Cert.KernelIdeal.Attn.qA m c) (Cert.KernelIdeal.Attn.kA m c) (Cert.KernelIdeal.Attn.vA m c)
    (Cert.KernelIdeal.Attn.lA m c) (Cert.KernelIdeal.Attn.gA m c) (h c)
  exact ⟨⟨ent_at _, ent_at _, num_at _ hv⟩, lam_real _ fun i d => hl (ix2 i d)⟩

/-- The value both sides end with. -/
def val (m : (ℓ : Loc Cert.KernelIdeal.nD Cert.KernelIdeal.τ Cert.KernelIdeal.sig) → Buf (Elt Ideal) ℓ) (c : Dev Cert.KernelIdeal.nD) :
    FVec Ideal Cert.KernelIdeal.S16384x1024 .bf16 :=
  Cert.KernelIdeal.Attn.RES (ent (Cert.KernelIdeal.Attn.qA m c)) (ent (Cert.KernelIdeal.Attn.kA m c)) (num (Cert.KernelIdeal.Attn.vA m c))
    (fun i d => Cert.KernelIdeal.Attn.lA m c (ix2 i d)) (fun e => Cert.KernelIdeal.Attn.gA m c (ix1 e))

/-- The reference's result is that value. -/
theorem ref_res (m : (ℓ : Loc Cert.KernelIdeal.nD Cert.KernelIdeal.τ Cert.KernelIdeal.sig) → Buf (Elt Ideal) ℓ)
    (h : Cert.Pre_KernelIdeal_finite m) (c : Dev Cert.KernelIdeal.nD) :
    (truncf .bf16 (shapeCast Cert.ReferenceIdeal.S16384x1024 (Cert.ReferenceIdeal.Attn.rF (Cert.KernelIdeal.Attn.gA m c)
        (Cert.ReferenceIdeal.Attn.rO (Cert.KernelIdeal.Attn.vA m c)
          (Cert.ReferenceIdeal.Attn.rA (Cert.ReferenceIdeal.Attn.rP (Cert.ReferenceIdeal.Attn.rE
              (Cert.ReferenceIdeal.Attn.rS (Cert.KernelIdeal.Attn.qA m c) (Cert.KernelIdeal.Attn.kA m c))
              (Cert.ReferenceIdeal.Attn.rM (Cert.ReferenceIdeal.Attn.rS (Cert.KernelIdeal.Attn.qA m c) (Cert.KernelIdeal.Attn.kA m c)))))
            (Cert.ReferenceIdeal.Attn.rL (Cert.KernelIdeal.Attn.lA m c)))))
        Cert.ReferenceIdeal.Gen.shapeCasts_S4x4096x8x128_S16384x1024) Cert.ReferenceIdeal.Gen.bitsLt_bf16_f32 : FVec Ideal Cert.ReferenceIdeal.S16384x1024 .bf16)
      = val m c := by
  obtain ⟨R, hl⟩ := pre_nums m h c
  funext i
  obtain ⟨n, j, rfl⟩ : ∃ (n : Fin 16384) (j : Fin 1024), i = ix2 n j := ⟨i 0, i 1, eq_ix2 i⟩
  refine (Cert.ReferenceIdeal.Attn.cast_at _ n j).trans ?_
  exact (Cert.ReferenceIdeal.Attn.ref_at R.hq R.hk R.hv hl _ _ _ _).trans rfl

theorem algebraic : Cert.algebraic_KernelIdeal_ReferenceIdeal_pre_finite := by
  intro m g m' g' hpre hagree
  refine ⟨fun c => val m c, ?_, ?_⟩
  · refine (θ_run _ _ _).mono (fun r h c => ?_) (Cert.KernelIdeal.Attn.run_main 0 m g)
    exact ⟨((h.1 c).1 (5 : Fin 6)).trans (Cert.KernelIdeal.Attn.final (pre_nums m hpre c).1), Cert.KernelIdeal.Attn.args_kept 0 m g r h.1 c⟩
  · refine (θ_run _ _ _).mono (fun r h c => ?_) (Cert.ReferenceIdeal.Value.run m' g')
    refine ⟨(h c).1.trans ?_, (h c).2⟩
    rw [Cert.ReferenceIdeal.Attn.res_eq]
    obtain ⟨h0, h1, h2, h3, h4⟩ := hagree c
    rw [h0, h1, h2, h3, h4]
    exact ref_res m hpre c

theorem frame_ref : Cert.quiescent_ReferenceIdeal := by
  intro m g _
  exact (θ_run _ _ _).mono (fun r h => ⟨fun c => (h c).2, sem_eq_zero_of_no_sems (by decide) r.2⟩)
    (Cert.ReferenceIdeal.Value.run m g)

theorem frame_ref_pre : Cert.quiescent_ReferenceIdeal_pre_finite := by
  intro m g _
  exact (θ_run _ _ _).mono (fun r h => ⟨fun c => (h c).2, sem_eq_zero_of_no_sems (by decide) r.2⟩)
    (Cert.ReferenceIdeal.Value.run m g)
end Cert.Attention
-- ==== Proof.Tail.Row.lean ====
module
public import Idealize.ShloMosaic.Lib.Pointwise
public import Idealize.ShloMosaic.Lib.Pipeline.ValueKit
@[expose] public section

/-! The tail of a layer for one token, over the extended reals: what both programs compute at row `r`, column `j`. -/

noncomputable section
namespace Cert.Tail
open Idealize.ShloMosaic

/-- The residual stream after the attention's output projection. -/
def x1 (x o : Fin 1024 → EReal) (wo : Fin 1024 → Fin 1024 → EReal) (j : Fin 1024) : EReal :=
  x j + ∑ k, o k * wo k j

/-- Root-mean-square normalisation of a row, with its gain. -/
def nrm (x g : Fin 1024 → EReal) (j : Fin 1024) : EReal :=
  x j * Ideal.rsqrt (Ideal.div (∑ k, x k * x k) (Ideal.ofBits .f32 0x44800000#32)
    + Ideal.ofBits .f32 0x358637BD#32) * g j

/-- The gated unit. -/
def act (g u : EReal) : EReal := g * Ideal.logistic g * u

/-- One hidden unit of the feed-forward block: gate column `a`, value column `b`. -/
def hid (h : Fin 1024 → EReal) (win : Fin 1024 → Fin 5632 → EReal) (a b : Fin 5632) : EReal :=
  act (∑ k, h k * win k a) (∑ k, h k * win k b)

/-- What 256 hidden units, from `n` on, add to column `j`; `n'` is where their value columns start. -/
def part (h : Fin 1024 → EReal) (win : Fin 1024 → Fin 5632 → EReal) (wout : Fin 2816 → Fin 1024 → EReal)
    (n n' : ℕ) (hn : n + 256 ≤ 2816) (hn' : n' + 256 ≤ 5632) (j : Fin 1024) : EReal :=
  ∑ l : Fin 256, hid h win ⟨n + l, by omega⟩ ⟨n' + l, by omega⟩ * wout ⟨n + l, by omega⟩ j

/-- The whole feed-forward block. -/
def ffn (h : Fin 1024 → EReal) (win : Fin 1024 → Fin 5632 → EReal) (wout : Fin 2816 → Fin 1024 → EReal)
    (j : Fin 1024) : EReal :=
  ∑ c : Fin 2816, hid h win ⟨c, by omega⟩ ⟨2816 + c, by omega⟩ * wout c j

/-- The gated per-layer embedding on top of the stream `x2`. -/
def fin (x2 gp : Fin 1024 → EReal) (p : Fin 256 → EReal) (wg : Fin 1024 → Fin 1024 → EReal)
    (wp : Fin 256 → Fin 1024 → EReal) (j : Fin 1024) : EReal :=
  x2 j + Ideal.logistic (∑ k, nrm x2 gp k * wg k j) * ∑ k, p k * wp k j

/-- The tail of the layer for one token, at column `j`. -/
def tail (x o : Fin 1024 → EReal) (p : Fin 256 → EReal) (wo : Fin 1024 → Fin 1024 → EReal) (gf : Fin 1024 → EReal)
    (win : Fin 1024 → Fin 5632 → EReal) (wout : Fin 2816 → Fin 1024 → EReal) (gp : Fin 1024 → EReal)
    (wg : Fin 1024 → Fin 1024 → EReal) (wp : Fin 256 → Fin 1024 → EReal) (j : Fin 1024) : EReal :=
  fin (fun j => x1 x o wo j + ffn (nrm (x1 x o wo) gf) win wout j) gp p wg wp j

/-- The eleven blocks of 256 hidden units, added one after another to `s`, are the whole block. -/
theorem add_parts (s : EReal) (h : Fin 1024 → EReal) (win : Fin 1024 → Fin 5632 → EReal)
    (wout : Fin 2816 → Fin 1024 → EReal) (j : Fin 1024) :
    s + part h win wout 0 2816 (by omega) (by omega) j + part h win wout 256 3072 (by omega) (by omega) j
      + part h win wout 512 3328 (by omega) (by omega) j + part h win wout 768 3584 (by omega) (by omega) j
      + part h win wout 1024 3840 (by omega) (by omega) j + part h win wout 1280 4096 (by omega) (by omega) j
      + part h win wout 1536 4352 (by omega) (by omega) j + part h win wout 1792 4608 (by omega) (by omega) j
      + part h win wout 2048 4864 (by omega) (by omega) j + part h win wout 2304 5120 (by omega) (by omega) j
      + part h win wout 2560 5376 (by omega) (by omega) j
      = s + ffn h win wout j := by
  have key : ffn h win wout j = ∑ a : Fin 11, part h win wout (256 * a) (2816 + 256 * a) (by omega) (by omega) j := by
    unfold ffn part
    rw [← (finProdFinEquiv (m := 11) (n := 256)).sum_comp, Fintype.sum_prod_type]
    refine Finset.sum_congr rfl fun a _ => Finset.sum_congr rfl fun l _ => ?_
    have e : ((finProdFinEquiv (a, l) : Fin (11 * 256)) : ℕ) = 256 * a + l := by
      simp [finProdFinEquiv, Nat.add_comm]
    have e1 : (⟨((finProdFinEquiv (a, l) : Fin (11 * 256)) : ℕ), by omega⟩ : Fin 5632) = ⟨256 * a + l, by omega⟩ := Fin.ext e
    have e2 : (⟨2816 + ((finProdFinEquiv (a, l) : Fin (11 * 256)) : ℕ), by omega⟩ : Fin 5632) = ⟨2816 + 256 * a + l, by omega⟩ :=
      Fin.ext (by simp only [e]; omega)
    have e3 : (finProdFinEquiv (a, l) : Fin (11 * 256)) = (⟨256 * a + l, by omega⟩ : Fin 2816) := Fin.ext e
    exact congrArg₂ (· * ·) (congrArg₂ (hid h win) e1 e2) (congrArg (wout · j) e3)
  rw [key]
  simp only [Fin.sum_univ_succ, Finset.univ_eq_empty, Finset.sum_empty, Fin.val_zero, Fin.val_succ, add_zero, ← add_assoc]
end Cert.Tail
-- ==== Proof.Tail.Block.lean ====
module
public import proofs.«01_k».proof.Proof.Gen.KernelTailIdeal.Value
public import proofs.«01_k».proof.Proof.Tail.Row
public import Idealize.ShloMosaic.Lib.Pipeline.ReadBack
@[expose] public section
set_option maxRecDepth 16384

/-! The tail's kernel at one element of its block: the row function of `Tail.Row` at the block's row. -/

noncomputable section
namespace Cert.KernelTailIdeal.Tail
open Cert.KernelTailIdeal Cert.KernelTailIdeal.Gen Idealize.ShloMosaic Idealize.ShloMosaic.TcCoe Idealize.SL.Sem
open Cert.Tail

variable (x : Vec Ideal S512x1024 .f32) (o : Vec Ideal S512x1024 .bf16) (p : Vec Ideal S512x256 .f32)
  (wo : Vec Ideal S1024x1024 .bf16) (gf : Vec Ideal S1x1024 .f32)
  (h : FVec Ideal S512x1024 .bf16) (win : Vec Ideal S1024x5632 .bf16) (wout : Vec Ideal S2816x1024 .bf16)
  (gp : Vec Ideal S1x1024 .f32) (wg : Vec Ideal S1024x1024 .bf16) (wp : Vec Ideal S256x1024 .bf16)
  (acc : Vec Ideal S512x1024 .f32) (r : Fin 512) (j : Fin 1024)

/-- The contribution of the hidden units from `n` on to element `(r, j)` of the block. -/
abbrev term (n n' : ℕ) (hn : n + 256 ≤ 2816) (hn' : n' + 256 ≤ 5632) : EReal :=
  part (fun k => h (ix2 r k)) (fun k c => win (ix2 k c)) (fun c j => wout (ix2 c j)) n n' hn hn' j

theorem pay2_at : k0_pay2 x o wo (ix2 r j)
    = x1 (fun j => x (ix2 r j)) (fun k => o (ix2 r k)) (fun k j => wo (ix2 k j)) j := by
  pointwise [k0_pay2, x1]

theorem pay3_at : k0_pay3 x o wo gf (ix2 r j)
    = nrm (x1 (fun j => x (ix2 r j)) (fun k => o (ix2 r k)) (fun k j => wo (ix2 k j))) (fun j => gf (ix2 0 j)) j := by
  pointwise [k0_pay3]
  simp only [pay2_at]
  rfl

/-- The first block of hidden units, added to the stream. -/
theorem pay5_at : k0_pay5 (k0_pay4 x o wo gf (View.ld win (Rect.unit ![0, 0] ![1024, 256] inb_S1024x5632_S1024x256_0_0)) (View.ld win (Rect.unit ![0, 2816] ![1024, 256] inb_S1024x5632_S1024x256_0_2816)) (View.ld wout (Rect.unit ![0, 0] ![256, 1024] inb_S2816x1024_S256x1024_0_0))) (ix2 r j)
    = k0_pay2 x o wo (ix2 r j) + term (k0_pay3 x o wo gf) win wout r j 0 2816 (by omega) (by omega) := by
  pointwise [k0_pay5, k0_pay4]
  simp only [term, part, hid, act, Nat.zero_add]

theorem pay6_at : k0_pay6 h (View.ld win (Rect.unit ![0, 256] ![1024, 256] inb_S1024x5632_S1024x256_0_256)) (View.ld win (Rect.unit ![0, 3072] ![1024, 256] inb_S1024x5632_S1024x256_0_3072)) (View.ld wout (Rect.unit ![256, 0] ![256, 1024] inb_S2816x1024_S256x1024_256_0)) acc (ix2 r j)
    = acc (ix2 r j) + term h win wout r j 256 3072 (by omega) (by omega) := by
  pointwise [k0_pay6]
  rfl

theorem pay8_at : k0_pay8 (k0_pay7 h (View.ld win (Rect.unit ![0, 512] ![1024, 256] inb_S1024x5632_S1024x256_0_512)) (View.ld win (Rect.unit ![0, 3328] ![1024, 256] inb_S1024x5632_S1024x256_0_3328)) (View.ld wout (Rect.unit ![512, 0] ![256, 1024] inb_S2816x1024_S256x1024_512_0))) acc (ix2 r j)
    = acc (ix2 r j) + term h win wout r j 512 3328 (by omega) (by omega) := by
  pointwise [k0_pay8, k0_pay7]
  rfl

theorem pay9_at : k0_pay9 h (View.ld win (Rect.unit ![0, 768] ![1024, 256] inb_S1024x5632_S1024x256_0_768)) (View.ld win (Rect.unit ![0, 3584] ![1024, 256] inb_S1024x5632_S1024x256_0_3584)) (View.ld wout (Rect.unit ![768, 0] ![256, 1024] inb_S2816x1024_S256x1024_768_0)) acc (ix2 r j)
    = acc (ix2 r j) + term h win wout r j 768 3584 (by omega) (by omega) := by
  pointwise [k0_pay9]
  rfl

theorem pay11_at : k0_pay11 (k0_pay10 h (View.ld win (Rect.unit ![0, 1024] ![1024, 256] inb_S1024x5632_S1024x256_0_1024)) (View.ld win (Rect.unit ![0, 3840] ![1024, 256] inb_S1024x5632_S1024x256_0_3840))) (View.ld wout (Rect.unit ![1024, 0] ![256, 1024] inb_S2816x1024_S256x1024_1024_0)) acc (ix2 r j)
    = acc (ix2 r j) + term h win wout r j 1024 3840 (by omega) (by omega) := by
  pointwise [k0_pay11, k0_pay10]
  rfl

theorem pay12_at : k0_pay12 h (View.ld win (Rect.unit ![0, 1280] ![1024, 256] inb_S1024x5632_S1024x256_0_1280)) (View.ld win (Rect.unit ![0, 4096] ![1024, 256] inb_S1024x5632_S1024x256_0_4096)) (View.ld wout (Rect.unit ![1280, 0] ![256, 1024] inb_S2816x1024_S256x1024_1280_0)) acc (ix2 r j)
    = acc (ix2 r j) + term h win wout r j 1280 4096 (by omega) (by omega) := by
  pointwise [k0_pay12]
  rfl

theorem pay14_at : k0_pay14 (k0_pay13 h (View.ld win (Rect.unit ![0, 1536] ![1024, 256] inb_S1024x5632_S1024x256_0_1536)) (View.ld win (Rect.unit ![0, 4352] ![1024, 256] inb_S1024x5632_S1024x256_0_4352))) (View.ld wout (Rect.unit ![1536, 0] ![256, 1024] inb_S2816x1024_S256x1024_1536_0)) acc (ix2 r j)
    = acc (ix2 r j) + term h win wout r j 1536 4352 (by omega) (by omega) := by
  pointwise [k0_pay14, k0_pay13]
  rfl

theorem pay15_at : k0_pay15 h (View.ld win (Rect.unit ![0, 1792] ![1024, 256] inb_S1024x5632_S1024x256_0_1792)) (View.ld win (Rect.unit ![0, 4608] ![1024, 256] inb_S1024x5632_S1024x256_0_4608)) (View.ld wout (Rect.unit ![1792, 0] ![256, 1024] inb_S2816x1024_S256x1024_1792_0)) acc (ix2 r j)
    = acc (ix2 r j) + term h win wout r j 1792 4608 (by omega) (by omega) := by
  pointwise [k0_pay15]
  rfl

theorem pay18_at : k0_pay18 h (k0_pay16 h (View.ld win (Rect.unit ![0, 2048] ![1024, 256] inb_S1024x5632_S1024x256_0_2048))) (k0_pay17 (View.ld win (Rect.unit ![0, 4864] ![1024, 256] inb_S1024x5632_S1024x256_0_4864))) (constant S512x256 .f32 0x00000000#32) (View.ld wout (Rect.unit ![2048, 0] ![256, 1024] inb_S2816x1024_S256x1024_2048_0)) acc (ix2 r j)
    = acc (ix2 r j) + term h win wout r j 2048 4864 (by omega) (by omega) := by
  pointwise [k0_pay18, k0_pay16, k0_pay17]
  rfl

theorem pay19_at : k0_pay19 h (View.ld win (Rect.unit ![0, 2304] ![1024, 256] inb_S1024x5632_S1024x256_0_2304)) (View.ld win (Rect.unit ![0, 5120] ![1024, 256] inb_S1024x5632_S1024x256_0_5120)) (View.ld wout (Rect.unit ![2304, 0] ![256, 1024] inb_S2816x1024_S256x1024_2304_0)) acc (ix2 r j)
    = acc (ix2 r j) + term h win wout r j 2304 5120 (by omega) (by omega) := by
  pointwise [k0_pay19]
  rfl

theorem pay21_at : k0_pay21 h (k0_pay20 h (View.ld win (Rect.unit ![0, 2560] ![1024, 256] inb_S1024x5632_S1024x256_0_2560))) (View.ld win (Rect.unit ![0, 5376] ![1024, 256] inb_S1024x5632_S1024x256_0_5376)) (View.ld wout (Rect.unit ![2560, 0] ![256, 1024] inb_S2816x1024_S256x1024_2560_0)) acc (ix2 r j)
    = acc (ix2 r j) + term h win wout r j 2560 5376 (by omega) (by omega) := by
  pointwise [k0_pay21, k0_pay20]
  rfl

/-- The stream after the feed-forward block. -/
def stream : FVec Ideal S512x1024 .f32 :=
  (k0_pay21 (k0_pay3 x o wo gf) (k0_pay20 (k0_pay3 x o wo gf) (View.ld win (Rect.unit ![0, 2560] ![1024, 256] inb_S1024x5632_S1024x256_0_2560))) (View.ld win (Rect.unit ![0, 5376] ![1024, 256] inb_S1024x5632_S1024x256_0_5376)) (View.ld wout (Rect.unit ![2560, 0] ![256, 1024] inb_S2816x1024_S256x1024_2560_0)) (k0_pay19 (k0_pay3 x o wo gf) (View.ld win (Rect.unit ![0, 2304] ![1024, 256] inb_S1024x5632_S1024x256_0_2304)) (View.ld win (Rect.unit ![0, 5120] ![1024, 256] inb_S1024x5632_S1024x256_0_5120)) (View.ld wout (Rect.unit ![2304, 0] ![256, 1024] inb_S2816x1024_S256x1024_2304_0)) (k0_pay18 (k0_pay3 x o wo gf) (k0_pay16 (k0_pay3 x o wo gf) (View.ld win (Rect.unit ![0, 2048] ![1024, 256] inb_S1024x5632_S1024x256_0_2048))) (k0_pay17 (View.ld win (Rect.unit ![0, 4864] ![1024, 256] inb_S1024x5632_S1024x256_0_4864))) (constant S512x256 .f32 0x00000000#32) (View.ld wout (Rect.unit ![2048, 0] ![256, 1024] inb_S2816x1024_S256x1024_2048_0)) (k0_pay15 (k0_pay3 x o wo gf) (View.ld win (Rect.unit ![0, 1792] ![1024, 256] inb_S1024x5632_S1024x256_0_1792)) (View.ld win (Rect.unit ![0, 4608] ![1024, 256] inb_S1024x5632_S1024x256_0_4608)) (View.ld wout (Rect.unit ![1792, 0] ![256, 1024] inb_S2816x1024_S256x1024_1792_0)) (k0_pay14 (k0_pay13 (k0_pay3 x o wo gf) (View.ld win (Rect.unit ![0, 1536] ![1024, 256] inb_S1024x5632_S1024x256_0_1536)) (View.ld win (Rect.unit ![0, 4352] ![1024, 256] inb_S1024x5632_S1024x256_0_4352))) (View.ld wout (Rect.unit ![1536, 0] ![256, 1024] inb_S2816x1024_S256x1024_1536_0)) (k0_pay12 (k0_pay3 x o wo gf) (View.ld win (Rect.unit ![0, 1280] ![1024, 256] inb_S1024x5632_S1024x256_0_1280)) (View.ld win (Rect.unit ![0, 4096] ![1024, 256] inb_S1024x5632_S1024x256_0_4096)) (View.ld wout (Rect.unit ![1280, 0] ![256, 1024] inb_S2816x1024_S256x1024_1280_0)) (k0_pay11 (k0_pay10 (k0_pay3 x o wo gf) (View.ld win (Rect.unit ![0, 1024] ![1024, 256] inb_S1024x5632_S1024x256_0_1024)) (View.ld win (Rect.unit ![0, 3840] ![1024, 256] inb_S1024x5632_S1024x256_0_3840))) (View.ld wout (Rect.unit ![1024, 0] ![256, 1024] inb_S2816x1024_S256x1024_1024_0)) (k0_pay9 (k0_pay3 x o wo gf) (View.ld win (Rect.unit ![0, 768] ![1024, 256] inb_S1024x5632_S1024x256_0_768)) (View.ld win (Rect.unit ![0, 3584] ![1024, 256] inb_S1024x5632_S1024x256_0_3584)) (View.ld wout (Rect.unit ![768, 0] ![256, 1024] inb_S2816x1024_S256x1024_768_0)) (k0_pay8 (k0_pay7 (k0_pay3 x o wo gf) (View.ld win (Rect.unit ![0, 512] ![1024, 256] inb_S1024x5632_S1024x256_0_512)) (View.ld win (Rect.unit ![0, 3328] ![1024, 256] inb_S1024x5632_S1024x256_0_3328)) (View.ld wout (Rect.unit ![512, 0] ![256, 1024] inb_S2816x1024_S256x1024_512_0))) (k0_pay6 (k0_pay3 x o wo gf) (View.ld win (Rect.unit ![0, 256] ![1024, 256] inb_S1024x5632_S1024x256_0_256)) (View.ld win (Rect.unit ![0, 3072] ![1024, 256] inb_S1024x5632_S1024x256_0_3072)) (View.ld wout (Rect.unit ![256, 0] ![256, 1024] inb_S2816x1024_S256x1024_256_0)) (k0_pay5 (k0_pay4 x o wo gf (View.ld win (Rect.unit ![0, 0] ![1024, 256] inb_S1024x5632_S1024x256_0_0)) (View.ld win (Rect.unit ![0, 2816] ![1024, 256] inb_S1024x5632_S1024x256_0_2816)) (View.ld wout (Rect.unit ![0, 0] ![256, 1024] inb_S2816x1024_S256x1024_0_0))))))))))))))

/-- The block the kernel stores. -/
def block : FVec Ideal S512x1024 .f32 :=
  k0_pay1 (stream x o wo gf win wout) (k0_pay22 (stream x o wo gf win wout) gp wg) (k0_pay23 p) wp

theorem stream_at : stream x o wo gf win wout (ix2 r j)
    = x1 (fun j => x (ix2 r j)) (fun k => o (ix2 r k)) (fun k j => wo (ix2 k j)) j
      + ffn (nrm (x1 (fun j => x (ix2 r j)) (fun k => o (ix2 r k)) (fun k j => wo (ix2 k j))) (fun j => gf (ix2 0 j)))
          (fun k c => win (ix2 k c)) (fun c j => wout (ix2 c j)) j := by
  unfold stream
  rw [pay21_at, pay19_at, pay18_at, pay15_at, pay14_at, pay12_at, pay11_at, pay9_at, pay8_at, pay6_at, pay5_at, pay2_at, term, add_parts]
  simp only [pay3_at]

theorem block_at : block x o p wo gf win wout gp wg wp (ix2 r j)
    = tail (fun j => x (ix2 r j)) (fun k => o (ix2 r k)) (fun k => p (ix2 r k)) (fun k j => wo (ix2 k j))
        (fun j => gf (ix2 0 j)) (fun k c => win (ix2 k c)) (fun c j => wout (ix2 c j)) (fun j => gp (ix2 0 j))
        (fun k j => wg (ix2 k j)) (fun k j => wp (ix2 k j)) j := by
  unfold block
  pointwise [k0_pay1, k0_pay22, k0_pay23]
  simp only [stream_at]
  rfl

variable (m : (ℓ : Loc nD τ sig) → Buf (Elt Ideal) ℓ)

set_option maxHeartbeats 1600000 in
/-- What a grid point leaves in the output's buffer, of its input blocks. -/
theorem outs_eq (c : Dev nD) (t : Fin cfg0.N) : outsAt0 m c t
    = block (iblk m c 0 t) (iblk m c 1 t) (iblk m c 2 t) (iblk m c 3 t) (iblk m c 4 t) (iblk m c 5 t) (iblk m c 6 t)
        (iblk m c 7 t) (iblk m c 8 t) (iblk m c 9 t) := by
  unfold outsAt0
  frame_open
  simp (disch := decide) only [↓ View.readCov_skip, ↓ View.readCov_cons_toLoadRect, ↓ View.readCov_fill]
  frame_out
  rfl
end Cert.KernelTailIdeal.Tail
-- ==== Proof.Tail.Ref.lean ====
module
public import proofs.«01_k».proof.Proof.Gen.ReferenceTailIdeal.Run
public import proofs.«01_k».proof.Proof.Tail.Row
@[expose] public section
set_option maxRecDepth 16384

/-! The tail's reference, stage by stage, at one element. -/

noncomputable section
namespace Cert.ReferenceTailIdeal.Tail
open Cert.ReferenceTailIdeal Cert.ReferenceTailIdeal.Gen Idealize.ShloMosaic Idealize.ShloMosaic.TcCoe Idealize.SL.Sem
open Cert.Tail

variable (x o : FVec Ideal S4x4096x1024 .f32) (p : FVec Ideal S4x4096x256 .f32) (wo : FVec Ideal S1024x1024 .f32)
  (gf : FVec Ideal S1024 .f32) (win : FVec Ideal S1024x5632 .f32) (wout : FVec Ideal S2816x1024 .f32)
  (gp : FVec Ideal S1024 .f32) (wg : FVec Ideal S1024x1024 .f32) (wp : FVec Ideal S256x1024 .f32)
  (b : Fin 4) (s : Fin 4096) (j : Fin 1024)

/-- The stream after the output projection. -/
def rX1 : FVec Ideal S4x4096x1024 .f32 :=
  addf x (Host.dotGeneral dot_S4x4096x1024_S1024x1024_S4x4096x1024_2_0_01_1_n_n none o wo)

/-- The normalisation. -/
def rN (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The gate and value columns. -/
def rU (h : FVec Ideal S4x4096x1024 .f32) : FVec Ideal S4x4096x5632 .f32 :=
  Host.dotGeneral dot_S4x4096x1024_S1024x5632_S4x4096x5632_2_0_01_1_n_n none h win

/-- The gated units. -/
def rA (u : FVec Ideal S4x4096x5632 .f32) : FVec Ideal S4x4096x2816 .f32 :=
  mulf (mulf (extractStridedSlice S4x4096x2816 ![0, 0, 0] u slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] u slices_S4x4096x5632_S4x4096x2816_0_0_0)))))) (extractStridedSlice S4x4096x2816 ![0, 0, 2816] u slices_S4x4096x5632_S4x4096x2816_0_0_2816)

/-- The stream after the feed-forward block. -/
def rX2 : FVec Ideal S4x4096x1024 .f32 :=
  addf (rX1 x o wo) (Host.dotGeneral dot_S4x4096x2816_S2816x1024_S4x4096x1024_2_0_01_1_n_n none (rA (rU win (rN (rX1 x o wo) gf))) wout)

/-- The gated embedding on top of a stream. -/
def rOut (x2 : FVec Ideal S4x4096x1024 .f32) : FVec Ideal S4x4096x1024 .f32 :=
  addf x2 (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (Host.dotGeneral dot_S4x4096x1024_S1024x1024_S4x4096x1024_2_0_01_1_n_n none (rN x2 gp) wg))))) (Host.dotGeneral dot_S4x4096x256_S256x1024_S4x4096x1024_2_0_01_1_n_n none p wp))

theorem rX1_at : rX1 x o wo (ix3 b s j)
    = x1 (fun j => x (ix3 b s j)) (fun k => o (ix3 b s k)) (fun k j => wo (ix2 k j)) j := by
  pointwise [rX1, x1]

theorem rN_at (g : FVec Ideal S1024 .f32) :
    rN x g (ix3 b s j) = nrm (fun j => x (ix3 b s j)) (fun j => g (ix1 j)) j := by
  pointwise [rN, nrm]

theorem rU_at (h : FVec Ideal S4x4096x1024 .f32) (c : Fin 5632) :
    rU win h (ix3 b s c) = ∑ k, h (ix3 b s k) * win (ix2 k c) := by
  pointwise [rU]

theorem rA_at (u : FVec Ideal S4x4096x5632 .f32) (c : Fin 2816) :
    rA u (ix3 b s c) = act (u (ix3 b s ⟨c, by omega⟩)) (u (ix3 b s ⟨2816 + c, by omega⟩)) := by
  pointwise [rA, act, Ideal.logistic]

theorem rX2_at : rX2 x o wo gf win wout (ix3 b s j)
    = x1 (fun j => x (ix3 b s j)) (fun k => o (ix3 b s k)) (fun k j => wo (ix2 k j)) j
      + ffn (nrm (x1 (fun j => x (ix3 b s j)) (fun k => o (ix3 b s k)) (fun k j => wo (ix2 k j))) (fun j => gf (ix1 j)))
          (fun k c => win (ix2 k c)) (fun c j => wout (ix2 c j)) j := by
  pointwise [rX2]
  simp only [rA_at, rU_at, rN_at, rX1_at]
  rfl

theorem rOut_at : rOut p gp wg wp (rX2 x o wo gf win wout) (ix3 b s j)
    = tail (fun j => x (ix3 b s j)) (fun k => o (ix3 b s k)) (fun k => p (ix3 b s k)) (fun k j => wo (ix2 k j))
        (fun j => gf (ix1 j)) (fun k c => win (ix2 k c)) (fun c j => wout (ix2 c j)) (fun j => gp (ix1 j))
        (fun k j => wg (ix2 k j)) (fun k j => wp (ix2 k j)) j := by
  pointwise [rOut]
  simp only [rN_at, rX2_at]
  rfl

variable (m : (ℓ : Loc nD τ sig) → Buf (Elt Ideal) ℓ)

/-- The reference's result in these stages. -/
theorem res_eq (c : Dev nD) : Value.res_main_v45 m c
    = shapeCast S16384x1024 (rOut (m ((c.tc : Thread nD τ).loc main_arg2)) (m ((c.tc : Thread nD τ).loc main_arg7))
        (m ((c.tc : Thread nD τ).loc main_arg8)) (m ((c.tc : Thread nD τ).loc main_arg9))
        (rX2 (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))))
        shapeCasts_S4x4096x1024_S16384x1024 := rfl

/-- Flattening the two leading axes, at an element. -/
theorem cast_at (y : FVec Ideal S4x4096x1024 .f32) (n : Fin 16384) (j : Fin 1024) :
    shapeCast S16384x1024 y shapeCasts_S4x4096x1024_S16384x1024 (ix2 n j)
      = y (ix3 ⟨n / 4096, by omega⟩ ⟨n % 4096, by omega⟩ j) := by
  pointwise
end Cert.ReferenceTailIdeal.Tail
-- ==== Proof.Tail.Arr.lean ====
module
public import proofs.«01_k».proof.Proof.Tail.Block
public import proofs.«01_k».proof.Proof.Tail.Ref
public import Idealize.ShloMosaic.Lib.StableHlo.RunRead
@[expose] public section
set_option maxRecDepth 16384

/-! The tail's array after the run, and its claim. -/

noncomputable section
namespace Cert.KernelTailIdeal.Tail
open Cert.KernelTailIdeal Cert.KernelTailIdeal.Gen Idealize.ShloMosaic Idealize.ShloMosaic.TcCoe Idealize.SL.Sem
open Idealize.ShloMosaic.Pipeline (Dat)
open Cert.Tail

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The result array in the arguments: element `(n, j)` is the tail of token `n`. -/
def res (x o : FVec Ideal S4x4096x1024 .f32) (p : FVec Ideal S4x4096x256 .f32) (wo : FVec Ideal S1024x1024 .f32)
    (gf : FVec Ideal S1024 .f32) (win : FVec Ideal S1024x5632 .f32) (wout : FVec Ideal S2816x1024 .f32)
    (gp : FVec Ideal S1024 .f32) (wg : FVec Ideal S1024x1024 .f32) (wp : FVec Ideal S256x1024 .f32) :
    FVec Ideal S16384x1024 .f32 := fun i =>
  let b : Fin 4 := ⟨(i 0).val / 4096, by have := (i 0).isLt; change (i 0).val < 16384 at this; omega⟩
  let s : Fin 4096 := ⟨(i 0).val % 4096, by omega⟩
  tail (fun j => x (ix3 b s j)) (fun k => o (ix3 b s k)) (fun k => p (ix3 b s k)) (fun k j => wo (ix2 k j))
    (fun j => gf (ix1 j)) (fun k c => win (ix2 k c)) (fun c j => wout (ix2 c j)) (fun j => gp (ix1 j))
    (fun k j => wg (ix2 k j)) (fun k j => wp (ix2 k j)) ⟨(i 1).val, (i 1).isLt⟩

section
variable (c : Dev nD) (t : Fin cfg0.N)

theorem tok (r : Fin 512) : 512 * t.val + r.val < 16384 := by
  have := t.isLt; change t.val < 32 at this; omega

theorem b0 (r : Fin 512) (k : Fin 1024) : iblk m c 0 t (ix2 r k)
    = m ((c : Thread nD τ).loc main_arg0) (ix3 ⟨(512 * t.val + r.val) / 4096, by have := tok t r; omega⟩ ⟨(512 * t.val + r.val) % 4096, by omega⟩ k) := by
  blk_ext! [iblk, V, idx t]
theorem b1 (r : Fin 512) (k : Fin 1024) : iblk m c 1 t (ix2 r k)
    = m ((c : Thread nD τ).loc main_arg1) (ix3 ⟨(512 * t.val + r.val) / 4096, by have := tok t r; omega⟩ ⟨(512 * t.val + r.val) % 4096, by omega⟩ k) := by
  blk_ext! [iblk, V, idx t]
theorem b2 (r : Fin 512) (k : Fin 256) : iblk m c 2 t (ix2 r k)
    = m ((c : Thread nD τ).loc main_arg2) (ix3 ⟨(512 * t.val + r.val) / 4096, by have := tok t r; omega⟩ ⟨(512 * t.val + r.val) % 4096, by omega⟩ k) := by
  blk_ext! [iblk, V, idx t]
theorem b3 (k : Fin 1024) (j : Fin 1024) : iblk m c 3 t (ix2 k j) = m ((c : Thread nD τ).loc main_arg3) (ix2 k j) := by
  blk_ext! [iblk, V, idx t]
theorem b4 (j : Fin 1024) : iblk m c 4 t (ix2 0 j) = m ((c : Thread nD τ).loc main_arg4) (ix1 j) := by
  blk_ext! [iblk, V, idx t]
theorem b5 (k : Fin 1024) (j : Fin 5632) : iblk m c 5 t (ix2 k j) = m ((c : Thread nD τ).loc main_arg5) (ix2 k j) := by
  blk_ext! [iblk, V, idx t]
theorem b6 (k : Fin 2816) (j : Fin 1024) : iblk m c 6 t (ix2 k j) = m ((c : Thread nD τ).loc main_arg6) (ix2 k j) := by
  blk_ext! [iblk, V, idx t]
theorem b7 (j : Fin 1024) : iblk m c 7 t (ix2 0 j) = m ((c : Thread nD τ).loc main_arg7) (ix1 j) := by
  blk_ext! [iblk, V, idx t]
theorem b8 (k : Fin 1024) (j : Fin 1024) : iblk m c 8 t (ix2 k j) = m ((c : Thread nD τ).loc main_arg8) (ix2 k j) := by
  blk_ext! [iblk, V, idx t]
theorem b9 (k : Fin 256) (j : Fin 1024) : iblk m c 9 t (ix2 k j) = m ((c : Thread nD τ).loc main_arg9) (ix2 k j) := by
  blk_ext! [iblk, V, idx t]
end

abbrev RES (c : Dev nD) : FVec Ideal S16384x1024 .f32 :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem final (c : Dev nD) : (dats m 0 c).arrAt 10 cfg0.N = RES m c := by
  refine (dats m 0 c).arrAt_eq_of_covers 10 _ (by decide +kernel) fun t _ y => ?_
  blk_simp
  rw [after0_10, outs_eq]
  obtain ⟨r, j, rfl⟩ : ∃ (r : Fin 512) (j : Fin 1024), y = ix2 r j := ⟨y 0, y 1, eq_ix2 y⟩
  rw [block_at]
  simp only [b0, b1, b2, b3, b4, b5, b6, b7, b8, b9]
  have e : ((View.whole main_v11).slice (win0_10.rect t)).emb (ix2 r j) = ix2 ⟨512 * t.val + r.val, tok t r⟩ j := by
    blk_ext [idx t]
  exact (congrArg (RES m c) e).symm
end Cert.KernelTailIdeal.Tail
-- ==== Proof.Tail.Claim.lean ====
module
public import proofs.«01_k».proof.Proof.Tail.Arr
public import proofs.«01_k».proof.Defs
@[expose] public section
set_option maxRecDepth 16384

/-! The tail's claims. -/

noncomputable section
namespace Cert.Tail
open Idealize.ShloMosaic Idealize.ShloMosaic.TcCoe Idealize.SL.Sem

attribute [local instance] Cert.KernelTailIdeal.Gen.facts Cert.ReferenceTailIdeal.Gen.facts

/-- The reference's result is the same function of its arguments. -/
theorem ref_res (m : (ℓ : Loc Cert.ReferenceTailIdeal.nD Cert.ReferenceTailIdeal.τ Cert.ReferenceTailIdeal.sig) → Buf (Elt Ideal) ℓ)
    (c : Dev Cert.ReferenceTailIdeal.nD) :
    Cert.ReferenceTailIdeal.Value.res_main_v45 m c
      = Cert.KernelTailIdeal.Tail.res (m ((c.tc : Thread Cert.ReferenceTailIdeal.nD Cert.ReferenceTailIdeal.τ).loc Cert.ReferenceTailIdeal.main_arg0))
          (m ((c.tc : Thread Cert.ReferenceTailIdeal.nD Cert.ReferenceTailIdeal.τ).loc Cert.ReferenceTailIdeal.main_arg1))
          (m ((c.tc : Thread Cert.ReferenceTailIdeal.nD Cert.ReferenceTailIdeal.τ).loc Cert.ReferenceTailIdeal.main_arg2))
          (m ((c.tc : Thread Cert.ReferenceTailIdeal.nD Cert.ReferenceTailIdeal.τ).loc Cert.ReferenceTailIdeal.main_arg3))
          (m ((c.tc : Thread Cert.ReferenceTailIdeal.nD Cert.ReferenceTailIdeal.τ).loc Cert.ReferenceTailIdeal.main_arg4))
          (m ((c.tc : Thread Cert.ReferenceTailIdeal.nD Cert.ReferenceTailIdeal.τ).loc Cert.ReferenceTailIdeal.main_arg5))
          (m ((c.tc : Thread Cert.ReferenceTailIdeal.nD Cert.ReferenceTailIdeal.τ).loc Cert.ReferenceTailIdeal.main_arg6))
          (m ((c.tc : Thread Cert.ReferenceTailIdeal.nD Cert.ReferenceTailIdeal.τ).loc Cert.ReferenceTailIdeal.main_arg7))
          (m ((c.tc : Thread Cert.ReferenceTailIdeal.nD Cert.ReferenceTailIdeal.τ).loc Cert.ReferenceTailIdeal.main_arg8))
          (m ((c.tc : Thread Cert.ReferenceTailIdeal.nD Cert.ReferenceTailIdeal.τ).loc Cert.ReferenceTailIdeal.main_arg9)) := by
  rw [Cert.ReferenceTailIdeal.Tail.res_eq]
  funext i
  obtain ⟨n, j, rfl⟩ : ∃ (n : Fin 16384) (j : Fin 1024), i = ix2 n j := ⟨i 0, i 1, eq_ix2 i⟩
  refine (Cert.ReferenceTailIdeal.Tail.cast_at _ n j).trans ?_
  refine (Cert.ReferenceTailIdeal.Tail.rOut_at _ _ _ _ _ _ _ _ _ _ _ _ _).trans ?_
  rfl

theorem algebraic : Cert.algebraic_KernelTailIdeal_ReferenceTailIdeal := by
  intro m g m' g' _ hagree
  refine ⟨fun c => Cert.KernelTailIdeal.Tail.RES m c, ?_, ?_⟩
  · refine (θ_run _ _ _).mono (fun r h c => ?_) (Cert.KernelTailIdeal.Value.run_blocks m g)
    exact ⟨(h c).1.trans (Cert.KernelTailIdeal.Tail.final m c), (h c).2⟩
  · refine (θ_run _ _ _).mono (fun r h c => ?_) (Cert.ReferenceTailIdeal.Value.run m' g')
    refine ⟨(h c).1.trans ?_, (h c).2⟩
    rw [ref_res]
    obtain ⟨h0, h1, h2, h3, h4, h5, h6, h7, h8, h9⟩ := hagree c
    rw [h0, h1, h2, h3, h4, h5, h6, h7, h8, h9]

theorem frame_ref : Cert.quiescent_ReferenceTailIdeal := by
  intro m g _
  refine (θ_run _ _ _).mono (fun r h => ⟨fun c => (h c).2, sem_eq_zero_of_no_sems (by decide) r.2⟩)
    (Cert.ReferenceTailIdeal.Value.run m g)
end Cert.Tail
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.KernelTail
public import proofs.«01_k».proof.Proof.Gen.KernelTail.Skeleton
public import proofs.«01_k».proof.Proof.Gen.KernelTail.Launch
public import proofs.«01_k».proof.Proof.Gen.KernelTail.Points
public import proofs.«01_k».proof.Proof.Gen.KernelTail.Frame
public import proofs.«01_k».proof.Proof.Gen.KernelTailIdeal
public import proofs.«01_k».proof.Proof.Gen.KernelTailIdeal.Skeleton
public import proofs.«01_k».proof.Proof.Gen.KernelTailIdeal.Launch
public import proofs.«01_k».proof.Proof.Gen.KernelTailIdeal.Points
public import proofs.«01_k».proof.Proof.Gen.KernelTailIdeal.Frame
public import proofs.«01_k».proof.Proof.Gen.ReferenceTailIdeal
public import proofs.«01_k».proof.Proof.Gen.KernelTailIdeal.Value
public import proofs.«01_k».proof.Proof.Gen.ReferenceTailIdeal.Run
public import proofs.«01_k».proof.Proof.Gen.ReferenceIdeal.Run
public import proofs.«01_k».proof.Proof.AttnIdeal.Post
public import proofs.«01_k».proof.Proof.AttnBits.Post
public import proofs.«01_k».proof.Proof.Attn.Claim
public import proofs.«01_k».proof.Proof.Tail.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelTail.Gen.facts, Cert.KernelTailIdeal.Gen.facts, Cert.ReferenceTailIdeal.Gen.facts, Cert.Attention.preFacts,
  fun m ρ _ => Cert.Kernel.Attn.frame m ρ,
  fun m ρ _ => Cert.KernelIdeal.Attn.frame m ρ,
  fun m ρ _ => Cert.KernelIdeal.Attn.frame m ρ,
  Cert.Attention.frame_ref,
  Cert.Attention.frame_ref_pre,
  fun m ρ _ => Cert.KernelTail.Gen.frame m ρ,
  fun m ρ _ => Cert.KernelTailIdeal.Gen.frame m ρ,
  Cert.Tail.frame_ref,
  IdealRules.named_const.statement _ _ _ _ _ rfl,
  Cert.Attention.algebraic,
  trivial,
  Cert.Tail.algebraic⟩

end Cert.Proof

end
